-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S1 : Shape := ⟨1, ![1]⟩
abbrev S9x256x4096 : Shape := ⟨3, ![9, 256, 4096]⟩
abbrev S_ : Shape := ⟨0, ![]⟩
abbrev S8x2 : Shape := ⟨2, ![8, 2]⟩
abbrev S1x1 : Shape := ⟨2, ![1, 1]⟩
abbrev S1x128x4096 : Shape := ⟨3, ![1, 128, 4096]⟩
abbrev S128x4096 : Shape := ⟨2, ![128, 4096]⟩
abbrev S256x512 : Shape := ⟨2, ![256, 512]⟩
abbrev S1x256x4096 : Shape := ⟨3, ![1, 256, 4096]⟩
abbrev S128x512 : Shape := ⟨2, ![128, 512]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .fp8e4m3⟩
  | .hbm, ⟨1, _⟩ => ⟨S4096x512, .f32⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S256x4096, .fp8e4m3⟩
  | .local _ .vmem, ⟨1, _⟩ => ⟨S4096x512, .f32⟩
  | .local _ .vmem, ⟨2, _⟩ => ⟨S9x256x4096, .fp8e4m3⟩
  | .local _ .vmem, ⟨3, _⟩ => ⟨S9x256x4096, .fp8e4m3⟩
  | .local _ .vmem, ⟨4, _⟩ => ⟨S4096x512, .f32⟩
  | .local _ .smem, ⟨0, _⟩ => ⟨S1, .f32⟩
  | .local _ .smem, ⟨1, _⟩ => ⟨S1, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_15 : BitVec 32 := 1#32
  let v13 : BitVec 32 := Scalar.muli v7 c1_i32_15
  let v14 : BitVec 32 := Scalar.addi c0_i32_16 v13
  v14.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_26 : BitVec 32 := 1#32
  let v22 : BitVec 32 := Scalar.muli v5 c1_i32_26
  let v23 : BitVec 32 := Scalar.addi c0_i32_27 v22
  v23.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_37 : BitVec 32 := 1#32
  let v31 : BitVec 32 := Scalar.muli v7 c1_i32_37
  let v32 : BitVec 32 := Scalar.addi c0_i32_38 v31
  v32.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_47 : BitVec 32 := 1#32
  let v40 : BitVec 32 := Scalar.muli v5 c1_i32_47
  let v41 : BitVec 32 := Scalar.addi c0_i32_48 v40
  v41.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v61 : BitVec 32 := Scalar.muli v2 c256_i32
  let v62 : Index := Scalar.indexCast v61
  let c0_59 : Index := 0#32
  ![v62.toNat, 0]
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_77 : BitVec 32 := 1#32
  let v71 : BitVec 32 := Scalar.muli v7 c1_i32_77
  let v72 : BitVec 32 := Scalar.addi c0_i32_78 v71
  v72.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_100 : BitVec 32 := 1#32
  let v88 : BitVec 32 := Scalar.muli v5 c1_i32_100
  let v89 : BitVec 32 := Scalar.addi c0_i32_101 v88
  v89.toNat
def k0_dev9 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_123 : BitVec 32 := 1#32
  let v105 : BitVec 32 := Scalar.muli v7 c1_i32_123
  let v106 : BitVec 32 := Scalar.addi c0_i32_124 v105
  v106.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_146 : BitVec 32 := 1#32
  let v122 : BitVec 32 := Scalar.muli v5 c1_i32_146
  let v123 : BitVec 32 := Scalar.addi c0_i32_147 v122
  v123.toNat
def k0_off2 (d0 : Dev nD) (c1_i32_153 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_152 : BitVec 32 := 16#32
  let v132 : BitVec 32 := Scalar.addi v2 c16_i32_152
  let v133 : BitVec 32 := Scalar.subi v132 c1_i32_153
  let c16_i32_154 : BitVec 32 := 16#32
  let v134 : BitVec 32 := Scalar.remsi v133 c16_i32_154
  let c256_i32_159 : BitVec 32 := 256#32
  let v142 : BitVec 32 := Scalar.muli v134 c256_i32_159
  let v143 : Index := Scalar.indexCast v142
  let c0_160 : Index := 0#32
  ![v143.toNat, 0]
def k0_off3 (d0 : Dev nD) (c1_i32_161 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v145 : BitVec 32 := Scalar.addi v2 c1_i32_161
  let c16_i32_162 : BitVec 32 := 16#32
  let v146 : BitVec 32 := Scalar.remsi v145 c16_i32_162
  let c256_i32_168 : BitVec 32 := 256#32
  let v154 : BitVec 32 := Scalar.muli v146 c256_i32_168
  let v155 : Index := Scalar.indexCast v154
  let c0_169 : Index := 0#32
  ![v155.toNat, 0]
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_187 : BitVec 32 := 1#32
  let v165 : BitVec 32 := Scalar.muli v7 c1_i32_187
  let v166 : BitVec 32 := Scalar.addi c0_i32_188 v165
  v166.toNat
def k0_dev12 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_211 : BitVec 32 := 1#32
  let v183 : BitVec 32 := Scalar.muli v5 c1_i32_211
  let v184 : BitVec 32 := Scalar.addi c0_i32_212 v183
  v184.toNat
def k0_dev13 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_235 : BitVec 32 := 1#32
  let v201 : BitVec 32 := Scalar.muli v7 c1_i32_235
  let v202 : BitVec 32 := Scalar.addi c0_i32_236 v201
  v202.toNat
def k0_dev14 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_259 : BitVec 32 := 1#32
  let v219 : BitVec 32 := Scalar.muli v5 c1_i32_259
  let v220 : BitVec 32 := Scalar.addi c0_i32_260 v219
  v220.toNat
def k0_dev15 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_300 : BitVec 32 := 1#32
  let v262 : BitVec 32 := Scalar.muli v7 c1_i32_300
  let v263 : BitVec 32 := Scalar.addi c0_i32_301 v262
  v263.toNat
def k0_dev16 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_324 : BitVec 32 := 1#32
  let v280 : BitVec 32 := Scalar.muli v5 c1_i32_324
  let v281 : BitVec 32 := Scalar.addi c0_i32_325 v280
  v281.toNat
def k0_dev17 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_348 : BitVec 32 := 1#32
  let v298 : BitVec 32 := Scalar.muli v7 c1_i32_348
  let v299 : BitVec 32 := Scalar.addi c0_i32_349 v298
  v299.toNat
def k0_dev18 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_372 : BitVec 32 := 1#32
  let v316 : BitVec 32 := Scalar.muli v5 c1_i32_372
  let v317 : BitVec 32 := Scalar.addi c0_i32_373 v316
  v317.toNat
def k0_dev19 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_413 : BitVec 32 := 1#32
  let v359 : BitVec 32 := Scalar.muli v7 c1_i32_413
  let v360 : BitVec 32 := Scalar.addi c0_i32_414 v359
  v360.toNat
def k0_dev20 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_437 : BitVec 32 := 1#32
  let v377 : BitVec 32 := Scalar.muli v5 c1_i32_437
  let v378 : BitVec 32 := Scalar.addi c0_i32_438 v377
  v378.toNat
def k0_dev21 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_461 : BitVec 32 := 1#32
  let v395 : BitVec 32 := Scalar.muli v7 c1_i32_461
  let v396 : BitVec 32 := Scalar.addi c0_i32_462 v395
  v396.toNat
def k0_dev22 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_485 : BitVec 32 := 1#32
  let v413 : BitVec 32 := Scalar.muli v5 c1_i32_485
  let v414 : BitVec 32 := Scalar.addi c0_i32_486 v413
  v414.toNat
def k0_dev23 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_526 : BitVec 32 := 1#32
  let v456 : BitVec 32 := Scalar.muli v7 c1_i32_526
  let v457 : BitVec 32 := Scalar.addi c0_i32_527 v456
  v457.toNat
def k0_dev24 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_550 : BitVec 32 := 1#32
  let v474 : BitVec 32 := Scalar.muli v5 c1_i32_550
  let v475 : BitVec 32 := Scalar.addi c0_i32_551 v474
  v475.toNat
def k0_dev25 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_574 : BitVec 32 := 1#32
  let v492 : BitVec 32 := Scalar.muli v7 c1_i32_574
  let v493 : BitVec 32 := Scalar.addi c0_i32_575 v492
  v493.toNat
def k0_dev26 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_598 : BitVec 32 := 1#32
  let v510 : BitVec 32 := Scalar.muli v5 c1_i32_598
  let v511 : BitVec 32 := Scalar.addi c0_i32_599 v510
  v511.toNat
def k0_dev27 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_639 : BitVec 32 := 1#32
  let v553 : BitVec 32 := Scalar.muli v7 c1_i32_639
  let v554 : BitVec 32 := Scalar.addi c0_i32_640 v553
  v554.toNat
def k0_dev28 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_663 : BitVec 32 := 1#32
  let v571 : BitVec 32 := Scalar.muli v5 c1_i32_663
  let v572 : BitVec 32 := Scalar.addi c0_i32_664 v571
  v572.toNat
def k0_dev29 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_687 : BitVec 32 := 1#32
  let v589 : BitVec 32 := Scalar.muli v7 c1_i32_687
  let v590 : BitVec 32 := Scalar.addi c0_i32_688 v589
  v590.toNat
def k0_dev30 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_711 : BitVec 32 := 1#32
  let v607 : BitVec 32 := Scalar.muli v5 c1_i32_711
  let v608 : BitVec 32 := Scalar.addi c0_i32_712 v607
  v608.toNat
def k0_dev31 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_752 : BitVec 32 := 1#32
  let v650 : BitVec 32 := Scalar.muli v7 c1_i32_752
  let v651 : BitVec 32 := Scalar.addi c0_i32_753 v650
  v651.toNat
def k0_dev32 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_800 : BitVec 32 := 1#32
  let v684 : BitVec 32 := Scalar.muli v5 c1_i32_800
  let v685 : BitVec 32 := Scalar.addi c0_i32_801 v684
  v685.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_848 : BitVec 32 := 8#32
  let v735 : BitVec 32 := Scalar.addi v2 c8_i32_848
  let c16_i32_849 : BitVec 32 := 16#32
  let v736 : BitVec 32 := Scalar.remsi v735 c16_i32_849
  let c256_i32_854 : BitVec 32 := 256#32
  let v744 : BitVec 32 := Scalar.muli v736 c256_i32_854
  let v745 : Index := Scalar.indexCast v744
  let c0_855 : Index := 0#32
  ![v745.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_848 : BitVec 32 := 8#32
  let v735 : BitVec 32 := Scalar.addi v2 c8_i32_848
  let c16_i32_849 : BitVec 32 := 16#32
  let v736 : BitVec 32 := Scalar.remsi v735 c16_i32_849
  let c256_i32_860 : BitVec 32 := 256#32
  let v754 : BitVec 32 := Scalar.muli v736 c256_i32_860
  let c128_i32_861 : BitVec 32 := 128#32
  let v755 : BitVec 32 := Scalar.addi v754 c128_i32_861
  let v756 : Index := Scalar.indexCast v755
  let c0_862 : Index := 0#32
  ![v756.toNat, 0]
abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .f32⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
module

public import proofs.«01_k».proof.Proof.Gen.KernelIdeal.Skeleton
public import proofs.«01_k».proof.Proof.Gen.KernelIdeal.Points
public import proofs.«01_k».proof.Proof.Gen.KernelIdeal.Frame

@[expose] public section

noncomputable section

namespace Cert.KernelIdeal.Proof

open Cert.KernelIdeal Cert.KernelIdeal.Gen
open Idealize.ShloMosaic Idealize.ShloMosaic.TcCoe Idealize.SL.Sem

variable {F : FTy → Type} [FloatOps F]

/-! # The kernel's program, said by direction, hop and half -/

/-- The device's block of `x`, its block of the result, the right-going and the left-going gather buffers. -/
abbrev xM : Memref sig .tc .vmem S256x4096 .fp8e4m3 := Memref.whole cc0_stg0_0
abbrev oM : Memref sig .tc .vmem S4096x512 .f32 := Memref.whole cc0_stg3_0
abbrev wM : Memref sig .tc .vmem S4096x512 .f32 := Memref.whole cc0_scratch2
abbrev wA : Memref sig .tc .hbm S4096x512 .f32 := Memref.whole main_arg1
def agM : Bool → Memref sig .tc .vmem S9x256x4096 .fp8e4m3
  | false => Memref.whole cc0_scratch0
  | true => Memref.whole cc0_scratch1

theorem agM_whole : ∀ d : Bool, (agM d).IsWhole
  | false => Memref.isWhole_whole _
  | true => Memref.isWhole_whole _

/-- Half `i` of slot `s` lies in the gather buffer; -/
theorem inb_slot (s : Fin 9) (i : Fin 2) : ∀ a, (![s.val, 128 * i.val, 0] : Fin 3 → Nat) a + S1x128x4096.size a ≤ S9x256x4096.size a := by
  revert s i; decide
/-- half `i` of the rows in the block of `x`. -/
theorem inb_half (i : Fin 2) : ∀ a, (![128 * i.val, 0] : Fin 2 → Nat) a + S128x4096.size a ≤ S256x4096.size a := by
  revert i; decide

theorem words_slot (s : Fin 9) (i : Fin 2) :
    (Rect.unit (s := S9x256x4096) ![s.val, 128 * i.val, 0] S1x128x4096.size (inb_slot s i)).WholeWords (EltTy.packing .fp8e4m3) := by
  revert s i; decide
theorem words_half (i : Fin 2) :
    (Rect.unit (s := S256x4096) ![128 * i.val, 0] S128x4096.size (inb_half i)).WholeWords (EltTy.packing .fp8e4m3) := by
  revert i; decide

/-- Half `i` of slot `s` of direction `d`'s gather buffer; half `i` of the rows of `x`. -/
def slotM (d : Bool) (s : Fin 9) (i : Fin 2) : Memref sig .tc .vmem S128x4096 .fp8e4m3 :=
  ((agM d).slice (Rect.unit (s := S9x256x4096) ![s.val, 128 * i.val, 0] S1x128x4096.size (inb_slot s i)) (fun _ => rfl)).squeeze S128x4096
    squeezes_S1x128x4096_S128x4096
def halfM (i : Fin 2) : Memref sig .tc .vmem S128x4096 .fp8e4m3 :=
  xM.slice (Rect.unit (s := S256x4096) ![128 * i.val, 0] S128x4096.size (inb_half i)) (fun _ => rfl)

theorem slotM_exact (d : Bool) (s : Fin 9) (i : Fin 2) : (slotM d s i).view.WordExact :=
  ((agM_whole d).wordExact_slice rfl _ (words_slot s i)).reshape _ _
theorem halfM_exact (i : Fin 2) : (halfM i).view.WordExact :=
  (Memref.isWhole_whole cc0_stg0_0).wordExact_slice rfl _ (words_half i)

/-- What hop `h` sends: `x`'s own rows at the first, what the hop before brought afterwards. -/
def srcM (d : Bool) (h : Fin 8) (i : Fin 2) : Memref sig .tc .vmem S128x4096 .fp8e4m3 :=
  match h with
  | ⟨0, _⟩ => halfM i
  | ⟨k + 1, hk⟩ => slotM d ⟨k + 1, by omega⟩ i

theorem srcM_exact (d : Bool) (h : Fin 8) (i : Fin 2) : (srcM d h i).view.WordExact :=
  match h with
  | ⟨0, _⟩ => halfM_exact i
  | ⟨k + 1, hk⟩ => slotM_exact d ⟨k + 1, by omega⟩ i

theorem inb_sem (h : Fin 8) (i : Fin 2) : ∀ a, (![h.val, i.val] : Fin 2 → Nat) a + S1x1.size a ≤ S8x2.size a := by
  revert h i; decide

/-- The semaphore arrays: by direction, send or receive. -/
def semArr : Bool → Bool → DmaSems sig S8x2
  | false, false => cc0_scratch4
  | false, true => cc0_scratch5
  | true, false => cc0_scratch6
  | true, true => cc0_scratch7
def semD (d r : Bool) (h : Fin 8) (i : Fin 2) : DmaSem sig :=
  (((semArr d r).slice (Rect.unit (s := S8x2) ![h.val, i.val] S1x1.size (inb_sem h i))).squeeze S_ squeezes_S1x1_S_).sem

/-- Where each semaphore lies among the device's DMA semaphores. -/
theorem semD_val : ∀ (d r : Bool) (h : Fin 8) (i : Fin 2), (semD d r h i).val = 5 + 32 * d.toNat + 16 * r.toNat + 2 * h.val + i.val := by
  decide +kernel

/-- Every hop but the last sends both halves both ways; the last sends one half each way. -/
def used (d : Bool) (h : Fin 8) (i : Fin 2) : Bool := Nat.blt h.val 7 || (d == Nat.beq i.val 1)

abbrev PT := TpuEff nD τ sig (Elt F) Λ₀ .tc

def sendOp (d : Bool) (h : Fin 8) (i : Fin 2) (n : Dev nD) : Prog (PT (F := F)) PUnit :=
  Prog.lift (.enqueueDma (srcM d h i) (.remote (Dev.tc n) (slotM d h.succ i) (.dma (semD d false h i))) (.dma (semD d true h i))
    (srcM_exact d h i) (slotM_exact d h.succ i) ⟨⟨rfl, Or.inl rfl⟩, trivial⟩)
def recvOp (d : Bool) (h : Fin 8) (i : Fin 2) : Prog (PT (F := F)) PUnit :=
  Prog.lift (.waitDma2 (semD d true h i) (srcM d h i) (slotM d h.succ i) (srcM_exact d h i) (slotM_exact d h.succ i))
def drainOp (d : Bool) (h : Fin 8) (i : Fin 2) : Prog (PT (F := F)) PUnit :=
  Prog.lift (.waitDma2 (semD d false h i) (slotM d h.succ i) (srcM d h i) (slotM_exact d h.succ i) (srcM_exact d h i))

/-- The devices named by the transfers: the left-going ones one down the ring, the right-going ones one up. -/
def toDev (c : Dev nD) (d : Bool) : Dev nD := if d then ⟨k0_dev4 c, k0_dev4_lt c⟩ else ⟨k0_dev3 c, k0_dev3_lt c⟩

def sendIf (d : Bool) (h : Fin 8) (i : Fin 2) (n : Dev nD) : Prog (PT (F := F)) PUnit :=
  bif used d h i then sendOp d h i n else .ret ⟨⟩

theorem inb_slot1 (s : Fin 9) : ∀ a, (![s.val, 0, 0] : Fin 3 → Nat) a + S1x256x4096.size a ≤ S9x256x4096.size a := by
  revert s; decide

/-- The rectangles of the gather buffer the products read: a whole slot, and half of the last slot. -/
abbrev rSlot (s : Fin 9) : Rect S9x256x4096 := Rect.unit (s := S9x256x4096) ![s.val, 0, 0] S1x256x4096.size (inb_slot1 s)
abbrev rHalf (i : Fin 2) : Rect S9x256x4096 := Rect.unit (s := S9x256x4096) ![8, 128 * i.val, 0] S1x128x4096.size (inb_slot 8 i)

/-- One block's product: read a slot, read and overwrite its rows of the result. -/
def dotOp (d : Bool) (s : Fin 9) (off : Fin 2 → Nat) (hin : ∀ a, off a + S256x512.size a ≤ S4096x512.size a) (v : F .f32)
    (w : FVec F S4096x512 .fp8e5m2) : Prog (PT (F := F)) PUnit := do
  let b ← Prog.lift (.load (agM d) (rSlot s).toLoadRect (View.loadsAt_vmem h_S1x256x4096))
  let _ ← Prog.lift (.load oM (Rect.unit (s := S4096x512) off S256x512.size hin).toLoadRect (View.loadsAt_vmem h_S256x512))
  Prog.lift (.store oM (Rect.unit (s := S4096x512) off S256x512.size hin) (k0_pay4 v w b) Finset.univ (View.stores_vmem_bits_univ h_S256x512 rfl) (.inl rfl))

def dotHalf (d : Bool) (i : Fin 2) (off : Fin 2 → Nat) (hin : ∀ a, off a + S128x512.size a ≤ S4096x512.size a) (v : F .f32)
    (w : FVec F S4096x512 .fp8e5m2) : Prog (PT (F := F)) PUnit := do
  let b ← Prog.lift (.load (agM d) (rHalf i).toLoadRect (View.loadsAt_vmem h_S1x128x4096))
  let _ ← Prog.lift (.load oM (Rect.unit (s := S4096x512) off S128x512.size hin).toLoadRect (View.loadsAt_vmem h_S128x512))
  Prog.lift (.store oM (Rect.unit (s := S4096x512) off S128x512.size hin) (k0_pay18 v w b) Finset.univ (View.stores_vmem_bits_univ h_S128x512 rfl) (.inl rfl))

/-- One hop's half: what the hop before brought is awaited and sent on, each way. -/
def hopHalf (c : Dev nD) (k : Fin 7) (i : Fin 2) : Prog (PT (F := F)) PUnit := do
  recvOp false k.castSucc i
  sendIf false k.succ i (toDev c false)
  recvOp true k.castSucc i
  sendIf true k.succ i (toDev c true)

def hop (c : Dev nD) (v : F .f32) (w : FVec F S4096x512 .fp8e5m2) (k : Fin 7) : Prog (PT (F := F)) PUnit := do
  hopHalf c k 0
  hopHalf c k 1
  dotOp false k.succ.castSucc (k0_off2 c (BitVec.ofNat 32 (1 + k.val))) (k0_off2_inb c k) v w
  dotOp true k.succ.castSucc (k0_off3 c (BitVec.ofNat 32 (1 + k.val))) (k0_off3_inb c k) v w

def hops (c : Dev nD) (v : F .f32) (w : FVec F S4096x512 .fp8e5m2) : List (Fin 7) → Prog (PT (F := F)) PUnit
  | [] => .ret ⟨⟩
  | k :: ks => do hop c v w k; hops c v w ks

def drains : List (Bool × Fin 8 × Fin 2) → Prog (PT (F := F)) PUnit
  | [] => .ret ⟨⟩
  | x :: xs => do drainOp x.1 x.2.1 x.2.2; drains xs

/-- The order in which the kernel waits for its sends. -/
def drainList : List (Bool × Fin 8 × Fin 2) :=
  [(false, 0, 0), (false, 0, 1), (false, 1, 0), (false, 1, 1), (false, 2, 0), (false, 2, 1), (false, 3, 0), (false, 3, 1),
   (false, 4, 0), (false, 4, 1), (false, 5, 0), (false, 5, 1), (false, 6, 0), (false, 6, 1), (false, 7, 0),
   (true, 0, 0), (true, 0, 1), (true, 1, 0), (true, 1, 1), (true, 2, 0), (true, 2, 1), (true, 3, 0), (true, 3, 1),
   (true, 4, 0), (true, 4, 1), (true, 5, 0), (true, 5, 1), (true, 6, 0), (true, 6, 1), (true, 7, 1)]

abbrev barS : Sem sig := (SemArray.scalar (sig.barrier 0 rfl) : Sems sig S_).sem
abbrev sxM : Memref sig .tc .smem S1 .f32 := Memref.whole cc0_stg1_0
abbrev swM : Memref sig .tc .smem S1 .f32 := Memref.whole cc0_stg2_0
abbrev wS : DmaSem sig := (cc0_scratch3 : DmaSems sig S_).sem
abbrev r1 : Rect S1 := Rect.unit (s := S1) ![0] S1.size inb_S1_S1_0
abbrev rX : Rect S256x4096 := Rect.unit (s := S256x4096) ![0, 0] S256x4096.size inb_S256x4096_S256x4096_0_0
abbrev rW : Rect S4096x512 := Rect.unit (s := S4096x512) ![0, 0] S4096x512.size inb_S4096x512_S4096x512_0_0
abbrev rOwn (c : Dev nD) : Rect S4096x512 := Rect.unit (s := S4096x512) (k0_off1 c) S256x512.size (k0_off1_inb c)

/-- The barrier with both neighbours. -/
def barProg (c : Dev nD) : Prog (PT (F := F)) PUnit := do
  semSignalWord (⟨k0_dev1 c, k0_dev1_lt c⟩ : Dev nD) barS 1#32
  semSignalWord (⟨k0_dev2 c, k0_dev2_lt c⟩ : Dev nD) barS 1#32
  semWaitWord barS 2#32

/-- The first hop's sends, both halves both ways. -/
def firstSends (c : Dev nD) : Prog (PT (F := F)) PUnit := do
  sendIf false 0 0 (toDev c false)
  sendIf true 0 0 (toDev c true)
  sendIf false 0 1 (toDev c false)
  sendIf true 0 1 (toDev c true)

/-- The weights' fetch. -/
def fetchW : Prog (PT (F := F)) PUnit :=
  Prog.lift (.enqueueDma wA (.here wM) (.dma wS) (Memref.isWhole_whole main_arg1).wordExact (Memref.isWhole_whole cc0_scratch2).wordExact ⟨Or.inl rfl, trivial⟩)
def awaitW : Prog (PT (F := F)) PUnit :=
  Prog.lift (.waitDma2 wS wA wM (Memref.isWhole_whole main_arg1).wordExact (Memref.isWhole_whole cc0_scratch2).wordExact)

/-- The product of the device's own rows. -/
def ownDot (c : Dev nD) (s1 s2 : Elt F .f32) (wv : Vec F S4096x512 .f32) : Prog (PT (F := F)) PUnit := do
  let b ← Prog.lift (.load xM rX.toLoadRect (View.loadsAt_vmem h_S256x4096))
  let _ ← Prog.lift (.load oM (rOwn c).toLoadRect (View.loadsAt_vmem h_S256x512))
  Prog.lift (.store oM (rOwn c) (k0_pay3 s1 s2 wv b) Finset.univ (View.stores_vmem_bits_univ h_S256x512 rfl) (.inl rfl))

def tailProg (c : Dev nD) (v : F .f32) (w : FVec F S4096x512 .fp8e5m2) : Prog (PT (F := F)) PUnit := do
  recvOp false 7 0
  recvOp true 7 1
  dotHalf false 0 (k0_off4 c) (k0_off4_inb c) v w
  dotHalf true 1 (k0_off5 c) (k0_off5_inb c) v w
  drains drainList

def bodyProg : Prog (PT (F := F)) PUnit := do
  let c : Dev nD ← Prog.lift .deviceId
  barProg c
  firstSends c
  fetchW
  let s1 ← smemLoad sxM r1 numel1_S1 rfl
  let s2 ← smemLoad swM r1 numel1_S1 rfl
  awaitW
  let wv ← Prog.lift (.load wM rW.toLoadRect (View.loadsAt_vmem h_S4096x512))
  ownDot c s1 s2 wv
  hops c (k0_pay1 s1 s2) (k0_pay2 wv) [0, 1, 2, 3, 4, 5, 6]
  tailProg c (k0_pay1 s1 s2) (k0_pay2 wv)

set_option maxRecDepth 65536 in
/-- The printed kernel is that program. -/
theorem body_eq : cc0_body (F := F) xM (Memref.isWhole_whole _) wA (Memref.isWhole_whole _) sxM (Memref.isWhole_whole _) swM (Memref.isWhole_whole _)
    oM (Memref.isWhole_whole _) (Memref.whole cc0_scratch0) (Memref.isWhole_whole _) (Memref.whole cc0_scratch1) (Memref.isWhole_whole _)
    wM (Memref.isWhole_whole _) cc0_scratch3 cc0_scratch4 cc0_scratch5 cc0_scratch6 cc0_scratch7 = bodyProg := by
  chain_rfl

end Cert.KernelIdeal.Proof
-- ==== Proof.Protocol.lean ====
module

public import proofs.«01_k».proof.Proof.Prog
public import Idealize.ShloMosaic.Lib.Tactic
public import Idealize.ShloMosaic.Lib.ValueLayout

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

/-- Where direction `d`'s transfers go: one device up, or one down. -/
def nb (d : Bool) (c : Dev nD) : Dev nD :=
  if d then ⟨(c.val + 15) % 16, Nat.mod_lt _ (by decide)⟩ else ⟨(c.val + 1) % 16, Nat.mod_lt _ (by decide)⟩

theorem nb_nb (d : Bool) (c : Dev nD) : nb d (nb (!d) c) = c := by revert d c; decide
theorem nb_nb' (d : Bool) (c : Dev nD) : nb (!d) (nb d c) = c := by revert d c; decide

theorem toDev_eq (c : Dev nD) (d : Bool) : toDev c d = nb d c := by
  cases d
  · exact Fin.ext (k0_dev3_eq c)
  · exact Fin.ext (k0_dev4_eq c)
theorem dev1_eq (c : Dev nD) : (⟨k0_dev1 c, k0_dev1_lt c⟩ : Dev nD) = nb true c := Fin.ext (k0_dev1_eq c)
theorem dev2_eq (c : Dev nD) : (⟨k0_dev2 c, k0_dev2_lt c⟩ : Dev nD) = nb false c := Fin.ext (k0_dev2_eq c)

/-- One step round the ring, in direction `d`. -/
def ring (d : Bool) : Dev nD ≃ Dev nD := ⟨nb d, nb (!d), nb_nb' d, nb_nb d⟩

/-- Whose rows lie in slot `s` of direction `d`'s gather buffer on device `c`. -/
def orig (d : Bool) (c : Dev nD) (s : ℕ) : Dev nD :=
  if d then ⟨(c.val + s) % 16, Nat.mod_lt _ (by decide)⟩ else ⟨(c.val + 15 * s) % 16, Nat.mod_lt _ (by decide)⟩

theorem orig_zero (d : Bool) (c : Dev nD) : orig d c 0 = c := by revert d c; decide
theorem orig_nb (d : Bool) (c : Dev nD) (s : ℕ) : orig d (nb d c) (s + 1) = orig d c s := by
  have hc : c.val < 16 := c.isLt
  cases d <;> refine Fin.ext ?_ <;> simp only [orig, nb, if_pos, Bool.false_eq_true, if_false] <;> omega

/-! ## The cells -/

/-- A transfer: its direction, its hop, its half. -/
abbrev X : Type := Bool × Fin 8 × Fin 2
/-- The kernel's own semaphores: the weights' fetch; each transfer's send and receive. -/
abbrev OI : Type := Unit ⊕ (Bool × X)
/-- The barrier's as well. -/
abbrev CI : Type := Unit ⊕ OI

abbrev osem : OI → SemLoc sig
  | .inl _ => .dma wS
  | .inr (r, x) => .dma (semD x.1 r x.2.1 x.2.2)
abbrev csem : CI → SemLoc sig
  | .inl _ => .reg barS
  | .inr k => osem k

theorem wS_val : (wS : DmaSem sig).val = 4 := by decide

theorem osem_injective : Function.Injective osem := by
  rintro (_ | ⟨r, d, h, i⟩) (_ | ⟨r', d', h', i'⟩) e
  · rfl
  · have := congrArg Fin.val (SemLoc.dma.inj e); rw [wS_val, semD_val] at this; omega
  · have := congrArg Fin.val (SemLoc.dma.inj e); rw [wS_val, semD_val] at this; omega
  · have := congrArg Fin.val (SemLoc.dma.inj e)
    rw [semD_val, semD_val] at this
    have hh : h.val < 8 := h.isLt
    have hh' : h'.val < 8 := h'.isLt
    have hi : i.val < 2 := i.isLt
    have hi' : i'.val < 2 := i'.isLt
    have e3 : h = h' := Fin.ext (by cases d <;> cases d' <;> cases r <;> cases r' <;> simp only [Bool.toNat_true, Bool.toNat_false] at this <;> omega)
    have e4 : i = i' := Fin.ext (by cases d <;> cases d' <;> cases r <;> cases r' <;> simp only [Bool.toNat_true, Bool.toNat_false] at this <;> omega)
    subst e3 e4
    cases d <;> cases d' <;> cases r <;> cases r' <;> simp only [Bool.toNat_true, Bool.toNat_false] at this <;> first | rfl | omega

theorem csem_injective : Function.Injective csem := by
  rintro (_ | k) (_ | k') e
  · rfl
  · rcases k' with _ | ⟨r, x⟩ <;> cases e
  · rcases k with _ | ⟨r, x⟩ <;> cases e
  · exact congrArg _ (osem_injective e)

/-- Which of them a semaphore is, if any. -/
def dec (s : SemLoc sig) : Option CI := Function.partialInv csem s
theorem dec_csem (k : CI) : dec (csem k) = some k := Function.partialInv_left csem_injective k
theorem dec_stage (q : DmaSem sig) (hq : q.val < 4) : dec (.dma q) = none := by
  by_contra h
  obtain ⟨k, hk⟩ := Option.ne_none_iff_exists'.mp h
  have e := (Function.partialInv_of_injective csem_injective k _).mp hk
  rcases k with _ | _ | ⟨r, x⟩
  · cases e
  · have := congrArg Fin.val (SemLoc.dma.inj e); rw [wS_val] at this; omega
  · have := congrArg Fin.val (SemLoc.dma.inj e); rw [semD_val] at this; omega

abbrev cell (c : Dev nD) (k : CI) : GSem nD τ sig := ((c : Thread nD τ), csem k)
abbrev kB : CI := .inl ()
abbrev kW : CI := .inr (.inl ())
abbrev kX (r : Bool) (x : X) : CI := .inr (.inr (r, x))

abbrev isUsed (x : X) : Bool := used x.1 x.2.1 x.2.2
/-- The order of the transfers: hop, half, direction. -/
def key (x : X) : ℕ := 4 * x.2.1.val + 2 * x.2.2.val + x.1.toNat
theorem key_inj {x y : X} (h : key x = key y) : x = y := by
  obtain ⟨d, a, i⟩ := x; obtain ⟨d', a', i'⟩ := y
  unfold key at h; dsimp only at h
  have hi : i.val < 2 := i.isLt
  have hi' : i'.val < 2 := i'.isLt
  have e1 : a = a' := Fin.ext (by cases d <;> cases d' <;> simp only [Bool.toNat_true, Bool.toNat_false] at h <;> omega)
  have e2 : i = i' := Fin.ext (by cases d <;> cases d' <;> simp only [Bool.toNat_true, Bool.toNat_false] at h <;> omega)
  subst e1 e2
  cases d <;> cases d' <;> simp only [Bool.toNat_true, Bool.toNat_false] at h <;> first | rfl | omega
theorem key_lt (x : X) : key x < 32 := by
  obtain ⟨d, a, i⟩ := x
  have ha : a.val < 8 := a.isLt
  have hi : i.val < 2 := i.isLt
  unfold key; dsimp only
  cases d <;> simp only [Bool.toNat_true, Bool.toNat_false] <;> omega

/-! ## The credits -/

def N : ℕ := (slotM false 1 0).view.dmaCredit
def Nw : ℕ := (wM : Memref sig .tc .vmem S4096x512 .f32).view.dmaCredit
theorem N_pos : 0 < N := View.dmaCredit_pos _ (by decide)
theorem Nw_pos : 0 < Nw := View.dmaCredit_pos _ (by decide)
theorem slot_credit (d : Bool) (s : Fin 9) (i : Fin 2) : (slotM d s i).view.dmaCredit = N := by cases d <;> rfl
theorem src_credit (d : Bool) (h : Fin 8) (i : Fin 2) : (srcM d h i).view.dmaCredit = N := by
  obtain ⟨_ | k, hk⟩ := h
  · rfl
  · exact slot_credit d _ i
theorem w_credit : (wM : Memref sig .tc .vmem S4096x512 .f32).view.dmaCredit = Nw := rfl

/-! ## Contents -/

/-- Device `c`'s block of `x`, as staged. -/
def xstg (c : Dev nD) : Vec F S256x4096 .fp8e4m3 :=
  (win0_0.blk (0 : Fin 1)).view.read (Elt F) ((s₀ m ρ).mem ((c : Thread nD τ).loc main_arg0))

/-- What a whole gather buffer holds at the end: in slot `s` the rows of the device `s` steps back. -/
def agV (d : Bool) (c : Dev nD) : Vec F S9x256x4096 .fp8e4m3 :=
  fun j => xstg m ρ (orig d c (j (0 : Fin 3)).val) (ix2 (j (1 : Fin 3)) (j (2 : Fin 3)))
def agF : (d : Bool) → (c : Dev nD) → Buf (Elt F) ((agM d).view.loc (c : Thread nD τ))
  | false, c => agV m ρ false c
  | true, c => agV m ρ true c

/-- Half `i` of a block of `x`. -/
def xHalf (i : Fin 2) (x : Vec F S256x4096 .fp8e4m3) : Vec F S128x4096 .fp8e4m3 := (halfM i).view.read (Elt F) x

omit [FloatOps F] in
theorem half_read (i : Fin 2) (x : Vec F S256x4096 .fp8e4m3) (a : Fin 128) (b : Fin 4096) :
    xHalf i x (ix2 a b) = x (ix2 ⟨128 * i.val + a.val, by have := i.isLt; omega⟩ b) := by
  show x _ = x _
  refine congrArg x (funext fun k => ?_)
  fin_cases k <;> refine Fin.ext ?_
  · show 128 * i.val + 1 * a.val = 128 * i.val + a.val; omega
  · show 0 + 1 * b.val = b.val; omega

omit [FloatOps F] in
/-- Half `i` of slot `s` holds the half of the rows of the device `s` steps back. -/
theorem slot_read (d : Bool) (c : Dev nD) (s : Fin 9) (i : Fin 2) :
    (slotM d s i).view.read (Elt F) (agF m ρ d c) = xHalf i (xstg m ρ (orig d c s.val)) := by
  funext j
  obtain ⟨a, b, rfl⟩ : ∃ (a : Fin 128) (b : Fin 4096), j = ix2 a b := ⟨j 0, j 1, funext fun k => by fin_cases k <;> rfl⟩
  rw [half_read]
  have key : ∀ f : Vec F S9x256x4096 .fp8e4m3,
      shapeCast S128x4096 (fun y => f ((Rect.unit (s := S9x256x4096) ![s.val, 128 * i.val, 0] S1x128x4096.size (inb_slot s i)).emb y))
        (show S1x128x4096.ShapeCasts S128x4096 from squeezes_S1x128x4096_S128x4096.numel_eq) (ix2 a b)
        = f (ix3 s ⟨128 * i.val + a.val, by have := i.isLt; omega⟩ b) := by
    intro f
    unfold shapeCast
    erw [reshapeEquiv_ix2_1ab]
    refine congrArg f (funext fun k => ?_)
    fin_cases k <;> refine Fin.ext ?_
    · show s.val + 1 * 0 = s.val; omega
    · show 128 * i.val + 1 * a.val = 128 * i.val + a.val; omega
    · show 0 + 1 * b.val = b.val; omega
  cases d
  · exact key (agV m ρ false c)
  · exact key (agV m ρ true c)

attribute [irreducible] N Nw

end Cert.KernelIdeal.Proof
-- ==== Proof.Sched.lean ====
module

public import proofs.«01_k».proof.Proof.Protocol

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What passes between the devices -/

/-- Half `i` of slot `s` of direction `d`'s gather buffer on device `c`, held at share `q`. -/
def slotPts (d : Bool) (s : Fin 9) (i : Fin 2) (c : Dev nD) (q : PosShare TreeShare) (f : Buf (Elt F) ((agM d).view.loc (c : Thread nD τ))) : sProp 𝕄 :=
  (slotM d s i).view.loc (c : Thread nD τ) ↦[(slotM d s i).view.set]{q} f
/-- Half `i` of the rows of `x` on device `c`. -/
def halfPts (i : Fin 2) (c : Dev nD) (q : PosShare TreeShare) (f : Buf (Elt F) ((xM : Memref sig .tc .vmem S256x4096 .fp8e4m3).view.loc (c : Thread nD τ))) : sProp 𝕄 :=
  (halfM i).view.loc (c : Thread nD τ) ↦[(halfM i).view.set]{q} f

/-- The share of `x` a direction's first sends read at. -/
def qX (d : Bool) : PosShare TreeShare := if d then fullShare.right.right else fullShare.right.left

/-- What transfer `x` reads, at the share it reads at. -/
def srcPts (x : X) (c : Dev nD) : sProp 𝕄 :=
  match x.2.1 with
  | ⟨0, _⟩ => halfPts x.2.2 c (qX x.1) (xstg m ρ c)
  | ⟨k + 1, hk⟩ => slotPts x.1 ⟨k + 1, by omega⟩ x.2.2 c fullShare.left (agF m ρ x.1 c)

/-- Where transfer `x` lands on device `c`, before it has; -/
def slotFree (x : X) (c : Dev nD) : sProp 𝕄 := iprop(∃ f, slotPts x.1 x.2.1.succ x.2.2 c fullShare f)
/-- and after. -/
def slotFull (x : X) (c : Dev nD) : sProp 𝕄 := slotPts x.1 x.2.1.succ x.2.2 c fullShare (agF m ρ x.1 c)

/-- All the landing places of one direction. -/
def barPay (d : Bool) (c : Dev nD) : sProp 𝕄 :=
  bigSep Finset.univ fun p : Fin 8 × Fin 2 => if isUsed (d, p) then slotFree (d, p) c else iprop(emp)

/-- The weights landed, and the array they came from back. -/
def wPay (c : Dev nD) : sProp 𝕄 :=
  iprop(((wM : Memref sig .tc .vmem S4096x512 .f32).view.loc (c : Thread nD τ) ↦[(wM : Memref sig .tc .vmem S4096x512 .f32).view.set]{fullShare} (m ((c : Thread nD τ).loc main_arg1) : Buf (Elt F) ((wM : Memref sig .tc .vmem S4096x512 .f32).view.loc (c : Thread nD τ))))
    ∗ ((wA : Memref sig .tc .hbm S4096x512 .f32).view.loc (c : Thread nD τ) ↦[(wA : Memref sig .tc .hbm S4096x512 .f32).view.set]{fullShare} m ((c : Thread nD τ).loc main_arg1)))

theorem slotView_storable (d : Bool) (s : Fin 9) (i : Fin 2) (c : Dev nD) (q) (f : Buf (Elt F) ((slotM d s i).view.loc (c : Thread nD τ))) :
    BI.Storable (upEmb : UEmb _ 𝕄) ((slotM d s i).view.loc (c : Thread nD τ) ↦[(slotM d s i).view.set]{q} f) := inferInstance
theorem halfView_storable (i : Fin 2) (c : Dev nD) (q) (f : Buf (Elt F) ((halfM i).view.loc (c : Thread nD τ))) :
    BI.Storable (upEmb : UEmb _ 𝕄) ((halfM i).view.loc (c : Thread nD τ) ↦[(halfM i).view.set]{q} f) := inferInstance
instance slotPts_storable (d : Bool) (s : Fin 9) (i : Fin 2) (c : Dev nD) (q) (f) : BI.Storable (upEmb : UEmb _ 𝕄) (slotPts (F := F) d s i c q f) :=
  slotView_storable d s i c q f
instance halfPts_storable (i : Fin 2) (c : Dev nD) (q) (f) : BI.Storable (upEmb : UEmb _ 𝕄) (halfPts (F := F) i c q f) :=
  halfView_storable i c q f
instance srcPts_storable (x : X) (c : Dev nD) : BI.Storable (upEmb : UEmb _ 𝕄) (srcPts (F := F) m ρ x c) := by
  obtain ⟨d, ⟨_ | k, hk⟩, i⟩ := x
  · exact halfPts_storable i c _ _
  · exact slotPts_storable d _ i c _ _
instance slotFree_storable (x : X) (c : Dev nD) : BI.Storable (upEmb : UEmb _ 𝕄) (slotFree (F := F) x c) := by
  unfold slotFree; infer_instance
instance slotFull_storable (x : X) (c : Dev nD) : BI.Storable (upEmb : UEmb _ 𝕄) (slotFull (F := F) m ρ x c) := by
  unfold slotFull; infer_instance
instance barPay_storable (d : Bool) (c : Dev nD) : BI.Storable (upEmb : UEmb _ 𝕄) (barPay (F := F) d c) := by
  unfold barPay
  haveI : ∀ p : Fin 8 × Fin 2, BI.Storable (upEmb : UEmb _ 𝕄) (if isUsed (d, p) then slotFree (F := F) (d, p) c else iprop(emp)) := fun p => by
    split <;> infer_instance
  infer_instance
instance wPay_storable (c : Dev nD) : BI.Storable (upEmb : UEmb _ 𝕄) (wPay (F := F) m c) := by
  unfold wPay; infer_instance

/-! ## The schedule: one round -/

def dutyOf : CI → Finset Bool
  | .inl _ => Finset.univ
  | .inr (.inl _) => {false}
  | .inr (.inr (_, x)) => if isUsed x then {false} else ∅
def amountOf : CI → ℕ
  | .inl _ => 1
  | .inr (.inl _) => Nw
  | .inr (.inr _) => N
/-- A barrier's duty `d` is its neighbour `nb d`'s, and hands that neighbour's landing places of direction `d`. -/
def payOf (c : Dev nD) : CI → Bool → sProp 𝕄
  | .inl _, d => barPay d (nb d c)
  | .inr (.inl _), _ => wPay m c
  | .inr (.inr (false, x)), _ => srcPts m ρ x c
  | .inr (.inr (true, x)), _ => slotFull m ρ x c

theorem amountOf_pos (k : CI) : 0 < amountOf k := by
  rcases k with _ | _ | ⟨r, x⟩
  · exact Nat.one_pos
  · exact Nw_pos
  · exact N_pos
instance payOf_storable (c : Dev nD) (k : CI) (d : Bool) : BI.Storable (upEmb : UEmb _ 𝕄) (payOf (F := F) m ρ c k d) := by
  rcases k with _ | _ | ⟨_ | _, x⟩
  · exact barPay_storable d (nb d c)
  · exact wPay_storable m c
  · exact srcPts_storable m ρ x c
  · exact slotFull_storable m ρ x c

def Rd : Rounds.Schedule (GSem nD τ sig) Bool 𝕄 where
  duties g r := if r = 0 ∧ g.1.2 = .tc then (dec g.2).elim ∅ dutyOf else ∅
  unitless _ := False
  amount g _ _ := (dec g.2).elim 1 amountOf
  payload g _ d := (dec g.2).elim iprop(emp) fun k => payOf m ρ g.1.1 k d
  amount_pos g _ _ _ := by
    cases h : dec g.2 with
    | none => exact Nat.one_pos
    | some k => exact amountOf_pos k

instance Rd_storable (g : GSem nD τ sig) (r : ℕ) (d : Bool) : BI.Storable (upEmb : UEmb _ 𝕄) ((Rd (F := F) m ρ).payload g r d) := by
  show BI.Storable upEmb ((dec g.2).elim iprop(emp) fun k => payOf m ρ g.1.1 k d)
  cases dec g.2 with
  | none => show BI.Storable upEmb iprop(emp); infer_instance
  | some k => exact payOf_storable m ρ g.1.1 k d

variable (c : Dev nD) (k : CI)

theorem Rd_duties : (Rd (F := F) m ρ).duties (cell c k) 0 = dutyOf k := by
  show (if (0 : ℕ) = 0 ∧ ((c : Thread nD τ)).2 = .tc then (dec (csem k)).elim ∅ dutyOf else ∅) = _
  rw [if_pos ⟨rfl, rfl⟩, dec_csem]; rfl
theorem Rd_later (g : GSem nD τ sig) : ∀ r, 1 ≤ r → (Rd (F := F) m ρ).duties g r = ∅ :=
  fun r hr => if_neg fun h => by omega
theorem Rd_amount (d : Bool) : (Rd (F := F) m ρ).amount (cell c k) 0 d = amountOf k := by
  show (dec (csem k)).elim 1 amountOf = _
  rw [dec_csem]; rfl
theorem Rd_payload (d : Bool) : (Rd (F := F) m ρ).payload (cell c k) 0 d = payOf m ρ c k d := by
  show (dec (csem k)).elim iprop(emp) (fun k => payOf m ρ c k d) = _
  rw [dec_csem]; rfl
theorem Rd_expect : (Rd (F := F) m ρ).expect (cell c k) 0 = (dutyOf k).card * amountOf k := by
  unfold Schedule.expect Schedule.amountOf
  rw [Rd_duties, Finset.sum_congr rfl fun d _ => Rd_amount m ρ c k d, Finset.sum_const, smul_eq_mul]
theorem Rd_rest : bigSep ((Rd (F := F) m ρ).duties (cell c k) 0 \ ∅) (fun d => (Rd (F := F) m ρ).payload (cell c k) 0 d)
    = bigSep (dutyOf k) (payOf m ρ c k) := by
  rw [Finset.sdiff_empty, Rd_duties, bigSep_congr fun d _ => Rd_payload m ρ c k d]

theorem duty_used {x : X} (h : isUsed x = true) (r : Bool) : dutyOf (kX r x) = {false} := if_pos h
theorem duty_unused {x : X} (h : isUsed x = false) (r : Bool) : dutyOf (kX r x) = ∅ := if_neg (by rw [h]; decide)

/-! ## What each device owes; the levels -/

/-- The receive credits device `c` still owes from the transfer numbered `n` on. -/
def owe (c : Dev nD) (n : ℕ) : CellTallies nD τ sig Unit :=
  ∑ x : X, if isUsed x ∧ n ≤ key x then tallyAt (cell (nb x.1 c) (kX true x)) () N else 0
def O₁ (c : Dev nD) : CellTallies nD τ sig Unit := owe c 0 + tallyAt (cell (nb false c) kB) () 1
def O₀ (c : Dev nD) : CellTallies nD τ sig Unit := O₁ c + tallyAt (cell (nb true c) kB) () 1

theorem owe_step (c : Dev nD) {x : X} (h : isUsed x = true) :
    owe c (key x) = owe c (key x + 1) + tallyAt (cell (nb x.1 c) (kX true x)) () N := by
  unfold owe
  rw [← Finset.sum_erase_add _ _ (Finset.mem_univ x), ← Finset.sum_erase_add (Finset.univ : Finset X) (fun y => if isUsed y ∧ key x + 1 ≤ key y then tallyAt (cell (nb y.1 c) (kX true y)) () N else 0) (Finset.mem_univ x),
    if_pos ⟨h, le_refl _⟩, if_neg (fun h => by omega), add_zero]
  congr 1
  refine Finset.sum_congr rfl fun y hy => if_congr ⟨fun h => ⟨h.1, ?_⟩, fun h => ⟨h.1, by omega⟩⟩ rfl rfl
  have : key x ≠ key y := fun e => (Finset.mem_erase.mp hy).1 (key_inj e.symm)
  omega
theorem owe_skip (c : Dev nD) {x : X} (h : isUsed x = false) : owe c (key x) = owe c (key x + 1) := by
  unfold owe
  refine Finset.sum_congr rfl fun y _ => if_congr ⟨fun hy => ⟨hy.1, ?_⟩, fun h => ⟨h.1, by omega⟩⟩ rfl rfl
  have : key x ≠ key y := fun e => by rw [key_inj e, hy.1] at h; cases h
  omega
theorem owe_end (c : Dev nD) : owe c 32 = 0 := by
  unfold owe
  exact Finset.sum_eq_zero fun y _ => if_neg fun h => by have := key_lt y; omega

def L (g : GSem nD τ sig) : Finset Unit := if g.1.2 = .tc then {()} else ∅
/-- Barriers at 1, a receive of hop `h` at `2 + h`, everything else at 0. -/
def lvOf : CI → ℕ
  | .inl _ => 1
  | .inr (.inl _) => 0
  | .inr (.inr (false, _)) => 0
  | .inr (.inr (true, x)) => 2 + x.2.1.val
def lv (g : GSem nD τ sig) (_ : Unit) : ℕ := (dec g.2).elim 0 lvOf

theorem lv_cell (u : Unit) : lv (cell c k) u = lvOf k := by
  show (dec (csem k)).elim 0 lvOf = _
  rw [dec_csem]; rfl
theorem L_of_ne (g : GSem nD τ sig) (h : g.1.2 ≠ .tc) : L g = ∅ := if_neg h
theorem L_tc (c : Dev nD) (sm : SemLoc sig) : L ((c : Thread nD τ), sm) = {()} := if_pos rfl

/-- Everything owed lies at cells above level `b`. -/
def Above (b : ℕ) (O : CellTallies nD τ sig Unit) : Prop := ∀ g u, 0 < O g u → g.1.2 = .tc ∧ b < lv g u

theorem above_zero (b : ℕ) : Above b 0 := fun g u h => absurd h (Nat.lt_irrefl 0)
theorem above_tally {b : ℕ} (c : Dev nD) (k : CI) (n : ℕ) (h : b < lvOf k) : Above b (tallyAt (cell c k) () n) := by
  intro g u hg
  rw [tallyAt_apply] at hg
  by_cases e : g = cell c k ∧ u = ()
  · rw [e.1, lv_cell]; exact ⟨rfl, h⟩
  · rw [if_neg e] at hg; exact absurd hg (Nat.lt_irrefl 0)
theorem above_add {b : ℕ} {O O' : CellTallies nD τ sig Unit} (h : Above b O) (h' : Above b O') : Above b (O + O') := by
  intro g u hg
  rw [Pi.add_apply, Finsupp.add_apply] at hg
  rcases Nat.eq_zero_or_pos (O g u) with e | e
  · exact h' g u (by omega)
  · exact h g u e
theorem above_owe (c : Dev nD) (b n : ℕ) (h : b < 2 + n / 4) : Above b (owe c n) := by
  unfold owe
  have hs : ∀ S : Finset X, Above b (∑ x ∈ S, if isUsed x ∧ n ≤ key x then tallyAt (cell (nb x.1 c) (kX true x)) () N else 0) := by
    intro S
    induction S using Finset.induction_on with
    | empty => exact above_zero b
    | insert x S hx ih =>
      rw [Finset.sum_insert hx]
      refine above_add ?_ ih
      split
      · next hk =>
        refine above_tally _ _ _ ?_
        obtain ⟨d, a, i⟩ := x
        have h2 := hk.2
        have hi : i.val < 2 := i.isLt
        unfold key at h2
        show b < 2 + a.val
        dsimp only at h2
        cases d <;> simp only [Bool.toNat_true, Bool.toNat_false] at h2 <;> omega
      · exact above_zero b
  exact hs _
theorem above_O₁ (c : Dev nD) : Above 0 (O₁ c) := above_add (above_owe c 0 0 (by decide)) (above_tally _ _ _ (by decide))
theorem above_O₀ (c : Dev nD) : Above 0 (O₀ c) := above_add (above_O₁ c) (above_tally _ _ _ (by decide))

/-- A device may wait at a cell of level at most `b` while all it owes lies above. -/
theorem mayWait (c : Dev nD) (s : SemLoc sig) (b : ℕ) (hs : (dec s).elim 0 lvOf ≤ b) (O : CellTallies nD τ sig Unit) (hO : Above b O) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by
      have := (hO g u hg).1
      show u ∈ (if g.1.2 = .tc then {()} else ∅)
      rw [if_pos this]; exact Finset.mem_singleton_self _)
    (fun p hp => by rw [Finset.mem_singleton.mp hp]; exact hs)
    (fun g u hg => (hO g u hg).2)

end Cert.KernelIdeal.Proof
-- ==== Proof.Steps.lean ====
module

public import proofs.«01_k».proof.Proof.Sched

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev Wp (c : Dev nD) (p : Prog (PT (F := F)) PUnit) (Q : PUnit → sProp 𝕄) : sProp 𝕄 :=
  wp frame (wpE (defs₀ (F := F)) 𝒱₀ (c : Thread nD τ) none) Set.univ p Q

instance : DecidableEq CI := instDecidableEqSum
variable (K : Dev nD × CI → ℕ)

/-- Every cell's invariant, and that its round 0 has been reached. -/
def recs : sProp 𝕄 :=
  bigSep Finset.univ fun p : Dev nD × CI => iprop(cellInv ER (Rd (F := F) m ρ) (K p) (cell p.1 p.2) ∗ reached ER (cell p.1 p.2) 0)

instance recs_persistent : BI.Persistent (recs (F := F) m ρ K) := by unfold recs; infer_instance

theorem recs_at (c : Dev nD) (k : CI) :
    recs (F := F) m ρ K ⊢ iprop(cellInv ER (Rd (F := F) m ρ) (K (c, k)) (cell c k) ∗ reached ER (cell c k) 0) := by
  unfold recs
  exact bigSep_elim (Φ := fun p : Dev nD × CI => iprop(cellInv ER (Rd (F := F) m ρ) (K p) (cell p.1 p.2) ∗ reached ER (cell p.1 p.2) 0)) (Finset.mem_univ (c, k))

/-- What device `c` owes from the transfer numbered `n` on, whatever it has waited for. -/
def Owes (c : Dev nD) (n : ℕ) : sProp 𝕄 := iprop(∃ W, owes (c : Thread nD τ) (owe c n) W)

/-- What a transfer not yet started needs; -/
def SendReady (c : Dev nD) (x : X) : sProp 𝕄 :=
  iprop(dutyTok ER (cell (nb x.1 c) (kX true x)) 0 false ∗ dutyTok ER (cell c (kX false x)) 0 false ∗ atPos ER (cell c (kX false x)) 0 ∅ 0
    ∗ slotFree x (nb x.1 c))
/-- and what one on its way leaves. -/
def InFlight (c : Dev nD) (x : X) : sProp 𝕄 :=
  iprop(cred (tallyAt (cell c (kX false x)) () N) ∗ atPos ER (cell c (kX false x)) 0 ∅ 0)

theorem srcPts_eq (x : X) (c : Dev nD) : ∃ (q : PosShare TreeShare) (fs : Buf (Elt F) ((srcM x.1 x.2.1 x.2.2).view.loc (c : Thread nD τ))),
    srcPts m ρ x c = ((srcM x.1 x.2.1 x.2.2).view.loc (c : Thread nD τ) ↦[(srcM x.1 x.2.1 x.2.2).view.set]{q} fs)
      ∧ (srcM x.1 x.2.1 x.2.2).view.read (Elt F) fs = xHalf x.2.2 (xstg m ρ (orig x.1 c x.2.1.val)) := by
  obtain ⟨d, ⟨_ | k, hk⟩, i⟩ := x
  · refine ⟨qX d, xstg m ρ c, rfl, ?_⟩
    show xHalf i (xstg m ρ c) = xHalf i (xstg m ρ (orig d c 0))
    rw [orig_zero]
  · exact ⟨fullShare.left, agF m ρ d c, rfl, slot_read m ρ d c ⟨k + 1, by omega⟩ i⟩

theorem write_on {sp : Space} {s : Shape} {e : EltTy} (v : View sig .tc sp s e) (f g : v.ty.Contents (Elt F)) {j : v.ty.Idx} (hj : j ∈ v.set) :
    v.write (Elt F) f (v.read (Elt F) g) Finset.univ j = g j := by
  rw [View.write_read_eq_piecewise]; exact Finset.piecewise_eq_of_mem _ _ _ hj

/-- What a transfer leaves at its landing place. -/
theorem landed (x : X) (c : Dev nD) (fd : Buf (Elt F) ((slotM x.1 x.2.1.succ x.2.2).view.loc (nb x.1 c : Thread nD τ))) :
    (((slotM x.1 x.2.1.succ x.2.2).view.loc (nb x.1 c : Thread nD τ) ↦[(slotM x.1 x.2.1.succ x.2.2).view.set]{fullShare}
        (slotM x.1 x.2.1.succ x.2.2).view.write (Elt F) fd (xHalf x.2.2 (xstg m ρ (orig x.1 c x.2.1.val))) Finset.univ : sProp 𝕄))
      = slotFull m ρ x (nb x.1 c) := by
  unfold slotFull slotPts
  rw [← orig_nb x.1 c x.2.1.val, show x.2.1.val + 1 = (x.2.1.succ : Fin 9).val from rfl, ← slot_read m ρ x.1 (nb x.1 c) x.2.1.succ x.2.2]
  exact pointsTo_congr fun j hj => write_on _ fd _ hj

theorem expect_used (c : Dev nD) {x : X} (hx : isUsed x = true) (r : Bool) : (Rd (F := F) m ρ).expect (cell c (kX r x)) 0 = N := by
  rw [Rd_expect, duty_used hx, Finset.card_singleton, Nat.one_mul]; rfl
theorem mem_used (c : Dev nD) {x : X} (hx : isUsed x = true) (r : Bool) : false ∈ (Rd (F := F) m ρ).duties (cell c (kX r x)) 0 := by
  rw [Rd_duties, duty_used hx]; exact Finset.mem_singleton_self _
/-- What a transfer's two cells hand over. -/
def payX (c : Dev nD) (r : Bool) (x : X) : sProp 𝕄 := match r with
  | false => srcPts m ρ x c
  | true => slotFull m ρ x c
theorem rest_used (c : Dev nD) {x : X} (hx : isUsed x = true) (r : Bool) :
    bigSep ((Rd (F := F) m ρ).duties (cell c (kX r x)) 0 \ ∅) (fun d => (Rd (F := F) m ρ).payload (cell c (kX r x)) 0 d) = payX m ρ c r x := by
  rw [Rd_rest, duty_used hx, bigSep_singleton]; cases r <;> rfl

/-- A transfer between any two places, its two cells those of `x`. -/
theorem send_gen (c : Dev nD) (x : X) (hx : isUsed x = true) (S D : Memref sig .tc .vmem S128x4096 .fp8e4m3)
    (hS : S.view.WordExact) (hD : D.view.WordExact) (hsem : DmaTarget.Typed .vmem (.dma (semD x.1 true x.2.1 x.2.2))
      (.remote (Dev.tc (nb x.1 c) : Thread nD τ) D (.dma (semD x.1 false x.2.1 x.2.2))))
    (q : PosShare TreeShare) (fs : Buf (Elt F) (S.view.loc (c : Thread nD τ))) (fd : Buf (Elt F) (D.view.loc (nb x.1 c : Thread nD τ)))
    (hN : D.view.dmaCredit = N)
    (hs : (S.view.loc (c : Thread nD τ) ↦[S.view.set]{q} fs) ⊢ srcPts m ρ x c)
    (hd : (D.view.loc (nb x.1 c : Thread nD τ) ↦[D.view.set]{fullShare} (D.view.write (Elt F) fd (S.view.read (Elt F) fs) Finset.univ))
      ⊢ slotFull m ρ x (nb x.1 c)) (Q : PUnit → sProp 𝕄) :
    iprop(recs m ρ K ∗ (S.view.loc (c : Thread nD τ) ↦[S.view.set]{q} fs) ∗ Owes c (key x)
        ∗ (dutyTok ER (cell (nb x.1 c) (kX true x)) 0 false ∗ dutyTok ER (cell c (kX false x)) 0 false ∗ atPos ER (cell c (kX false x)) 0 ∅ 0
          ∗ (D.view.loc (nb x.1 c : Thread nD τ) ↦[D.view.set]{fullShare} fd)) ∗ ((Owes c (key x + 1) ∗ InFlight c x) -∗ Q ⟨⟩))
      ⊢ Wp c (Prog.lift (.enqueueDma S (.remote (Dev.tc (nb x.1 c)) D (.dma (semD x.1 false x.2.1 x.2.2))) (.dma (semD x.1 true x.2.1 x.2.2)) hS hD hsem)) Q := by
  unfold Owes
  simp only [Prog.lift]
  iintro ⟨#Hrec, Hs, ⟨%W, HO⟩, ⟨Ht, Hts, Hat, Hd⟩, Hk⟩
  ihave HiS := (recs_at m ρ K c (kX false x)) $$ Hrec
  icases HiS with ⟨#HiS, #HrS⟩
  ihave HiR := (recs_at m ρ K (nb x.1 c) (kX true x)) $$ Hrec
  icases HiR with ⟨#HiR, #HrR⟩
  iapply (Rounds.wp_send_pointsTo 𝒱₀ ER (Rd m ρ) (c : Thread nD τ) none (κ₁ := K (c, kX false x)) (κ₂ := K (nb x.1 c, kX true x))
    (c' := (nb x.1 c : Thread nD τ)) (src := S) (dst := D) (q := q) (fs := fs) (sS := .dma (semD x.1 false x.2.1 x.2.2)) (sem := .dma (semD x.1 true x.2.1 x.2.2))
    (r₁ := 0) (r₂ := 0) (d₁ := false) (d₂ := false) (fd := fd)
    (mem_used m ρ c hx false) (mem_used m ρ (nb x.1 c) hx true)
    () () N hN (Rd_amount m ρ c (kX false x) false) (Rd_amount m ρ (nb x.1 c) (kX true x) false)
    (owe c (key x + 1)) (owe_step c hx) (W := W)
    (hs.trans (Entails.of_eq (Rd_payload m ρ c (kX false x) false).symm))
    (hd.trans (Entails.of_eq (Rd_payload m ρ (nb x.1 c) (kX true x) false).symm))) $$ [Hs Hd HO Ht Hts]
  · isplitr; · iexact HiS
    isplitr; · iexact HiR
    isplitl [Hs]; · iexact Hs
    isplitl [Hd]; · iexact Hd
    isplitl [HO]; · iexact HO
    isplitl [Hts]; · iexact Hts
    isplitr; · iexact HrS
    isplitl [Ht]; · iexact Ht
    iexact HrR
  iintro ⟨HcS, HO⟩
  rw [wp_ret]; imodintro
  iapply Hk
  unfold InFlight
  isplitl [HO]; · iexists W; iexact HO
  isplitl [HcS]; · iexact HcS
  iexact Hat

theorem send_step (c : Dev nD) (x : X) (hx : isUsed x = true) (Q : PUnit → sProp 𝕄) :
    iprop(recs m ρ K ∗ srcPts m ρ x c ∗ Owes c (key x) ∗ SendReady c x ∗ ((Owes c (key x + 1) ∗ InFlight c x) -∗ Q ⟨⟩))
      ⊢ Wp c (sendOp x.1 x.2.1 x.2.2 (toDev c x.1)) Q := by
  rw [toDev_eq]
  obtain ⟨q, fs, he, hr⟩ := srcPts_eq m ρ x c
  unfold sendOp SendReady slotFree slotPts
  iintro ⟨#Hrec, Hs, HO, ⟨Ht, Hts, Hat, ⟨%fd, Hd⟩⟩, Hk⟩
  ihave Hs := (Entails.of_eq he) $$ Hs
  iapply (send_gen m ρ K c x hx (srcM x.1 x.2.1 x.2.2) (slotM x.1 x.2.1.succ x.2.2) _ _ _ q fs fd (slot_credit _ _ _) (Entails.of_eq he.symm)
    (by rw [hr]; exact Entails.of_eq (landed m ρ x c fd)) Q)
  isplitr; · iexact Hrec
  isplitl [Hs]; · iexact Hs
  isplitl [HO]; · iexact HO
  isplitl [Ht Hts Hat Hd]
  · isplitl [Ht]; · iexact Ht
    isplitl [Hts]; · iexact Hts
    isplitl [Hat]; · iexact Hat
    iexact Hd
  iexact Hk

/-- A wait for a transfer's arrival: the landing place filled, the cell closed. -/
theorem recv_step (c : Dev nD) (x : X) (hx : isUsed x = true) (n : ℕ) (hn : 2 + x.2.1.val < 2 + n / 4) (Q : PUnit → sProp 𝕄) :
    iprop(recs m ρ K ∗ levAts L lv ∗ Owes c n ∗ (cred (tallyAt (cell c (kX true x)) () N) ∗ atPos ER (cell c (kX true x)) 0 ∅ 0)
        ∗ ((Owes c n ∗ semVal (cell c (kX true x)) 0 ∗ slotFull m ρ x c) -∗ Q ⟨⟩))
      ⊢ Wp c (recvOp x.1 x.2.1 x.2.2) Q := by
  unfold Owes recvOp
  simp only [Prog.lift]
  iintro ⟨#Hrec, #Hlev, ⟨%W, HO⟩, ⟨Hc, Hat⟩, Hk⟩
  ihave HiR := (recs_at m ρ K c (kX true x)) $$ Hrec
  icases HiR with ⟨#HiR, -⟩
  iapply (Rounds.wp_wait_rest_token 𝒱₀ ER (Rd m ρ) (c : Thread nD τ) none (κ := K (c, kX true x))
      (wpE_waitDma2_eq 𝒱₀ (c : Thread nD τ) none Set.univ) (Set.mem_univ _) () (O := owe c n) (W := W) (R := 0) (m := 0) (T := ∅)
      ((Nat.zero_add _).trans ((slot_credit _ _ _).trans (expect_used m ρ c hx true).symm))) $$ [Hc HO Hat]
  · isplitr; · iexact HiR
    isplitl [Hc]; · rw [slot_credit]; iexact Hc
    isplitl [HO]; · iexact HO
    isplitr
    · iapply (mayWait c (csem (kX true x)) (2 + x.2.1.val) (by rw [dec_csem]; exact le_refl _) (owe c n) (above_owe c _ n hn)); iexact Hlev
    iexact Hat
  iintro ⟨HO, Hat, -, Hpay⟩
  ihave Hp := (Entails.of_eq (rest_used m ρ c hx true)) $$ Hpay
  unfold payX
  imod (Rounds.cell_close ER (Rd m ρ) (Set.mem_univ (K (c, kX true x))) (fun h => h) (R := 0 + 1) (Rd_later m ρ (cell c (kX true x)))) $$ [Hat] with Hz
  · isplitr; · iexact HiR
    iexact Hat
  rw [wp_ret]; imodintro
  iapply Hk
  isplitl [HO]; · iexists (insert (csem (kX true x), ()) W); iexact HO
  isplitl [Hz]; · iexact Hz
  iexact Hp

/-- A wait for a send's end: what it read comes back, the cell closed. -/
theorem drain_step (c : Dev nD) (x : X) (hx : isUsed x = true) (Q : PUnit → sProp 𝕄) :
    iprop(recs m ρ K ∗ Owes c 32 ∗ InFlight c x ∗ ((Owes c 32 ∗ semVal (cell c (kX false x)) 0 ∗ srcPts m ρ x c) -∗ Q ⟨⟩))
      ⊢ Wp c (drainOp x.1 x.2.1 x.2.2) Q := by
  unfold Owes drainOp InFlight
  rw [owe_end]
  simp only [Prog.lift]
  iintro ⟨#Hrec, ⟨%W, HO⟩, ⟨Hc, Hat⟩, Hk⟩
  ihave HiR := (recs_at m ρ K c (kX false x)) $$ Hrec
  icases HiR with ⟨#HiR, -⟩
  iapply (Rounds.wp_wait_rest_token 𝒱₀ ER (Rd m ρ) (c : Thread nD τ) none (κ := K (c, kX false x))
      (wpE_waitDma2_eq 𝒱₀ (c : Thread nD τ) none Set.univ) (Set.mem_univ _) () (O := 0) (W := W) (R := 0) (m := 0) (T := ∅)
      ((Nat.zero_add _).trans ((src_credit _ _ _).trans (expect_used m ρ c hx false).symm))) $$ [Hc HO Hat]
  · isplitr; · iexact HiR
    isplitl [Hc]; · rw [src_credit]; iexact Hc
    isplitl [HO]; · iexact HO
    isplitr; · rw [MayWait_zero]; iempintro
    iexact Hat
  iintro ⟨HO, Hat, -, Hpay⟩
  ihave Hp := (Entails.of_eq (rest_used m ρ c hx false)) $$ Hpay
  unfold payX
  imod (Rounds.cell_close ER (Rd m ρ) (Set.mem_univ (K (c, kX false x))) (fun h => h) (R := 0 + 1) (Rd_later m ρ (cell c (kX false x)))) $$ [Hat] with Hz
  · isplitr; · iexact HiR
    iexact Hat
  rw [wp_ret]; imodintro
  iapply Hk
  isplitl [HO]; · iexists (insert (csem (kX false x), ()) W); iexact HO
  isplitl [Hz]; · iexact Hz
  iexact Hp

end Cert.KernelIdeal.Proof
-- ==== Proof.State.lean ====
module

public import proofs.«01_k».proof.Proof.Steps

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## Which transfers are under way -/

/-- `A` for the transfers numbered below `n`, `B` for the others. -/
def phase (A B : X → sProp 𝕄) (n : ℕ) (y : X) : sProp 𝕄 := if key y < n then A y else B y

theorem advance (A B : X → sProp 𝕄) (x : X) :
    bigSep Finset.univ (phase A B (key x)) ⊢ iprop(B x ∗ (A x -∗ bigSep Finset.univ (phase A B (key x + 1)))) := by
  rw [bigSep_univ_at (phase A B (key x)) x, bigSep_univ_at (phase A B (key x + 1)) x]
  rw [show phase A B (key x) x = B x from if_neg (Nat.lt_irrefl _), show phase A B (key x + 1) x = A x from if_pos (Nat.lt_succ_self _)]
  rw [bigSep_congr (Ψ := phase A B (key x + 1)) fun y hy => by
    have hne : key y ≠ key x := fun e => (Finset.mem_erase.mp hy).1 (key_inj e)
    unfold phase
    by_cases h : key y < key x
    · rw [if_pos h, if_pos (by omega)]
    · rw [if_neg h, if_neg (by omega)]]
  iintro ⟨HB, HR⟩
  isplitl [HB]; · iexact HB
  iintro HA
  isplitl [HA]; · iexact HA
  iexact HR

theorem peek₂ (A B : X → sProp 𝕄) (n : ℕ) (x y : X) (hne : x ≠ y) (hx : key x < n) (hy : key y < n) :
    bigSep Finset.univ (phase A B n) ⊢ iprop(A x ∗ A y ∗ ((A x ∗ A y) -∗ bigSep Finset.univ (phase A B n))) := by
  have he : bigSep (Finset.univ.erase x) (phase A B n) = iprop(phase A B n y ∗ bigSep ((Finset.univ.erase x).erase y) (phase A B n)) :=
    bigSep_erase (Finset.mem_erase.mpr ⟨hne.symm, Finset.mem_univ y⟩)
  rw [bigSep_univ_at (phase A B n) x, he,
    show phase A B n x = A x from if_pos hx, show phase A B n y = A y from if_pos hy]
  iintro ⟨HX, HY, HR⟩
  isplitl [HX]; · iexact HX
  isplitl [HY]; · iexact HY
  iintro ⟨HX, HY⟩
  isplitl [HX]; · iexact HX
  isplitl [HY]; · iexact HY
  iexact HR

theorem peek (A B : X → sProp 𝕄) (n : ℕ) (x : X) (h : key x < n) :
    bigSep Finset.univ (phase A B n) ⊢ iprop(A x ∗ (A x -∗ bigSep Finset.univ (phase A B n))) := by
  rw [bigSep_univ_at (phase A B n) x, show phase A B n x = A x from if_pos h]
  iintro ⟨HB, HR⟩
  isplitl [HB]; · iexact HB
  iintro HA
  isplitl [HA]; · iexact HA
  iexact HR

/-- A send before it starts, and after. -/
def sB (c : Dev nD) (x : X) : sProp 𝕄 := if isUsed x then SendReady c x else atPos ER (cell c (kX false x)) 0 ∅ 0
def sA (c : Dev nD) (x : X) : sProp 𝕄 := if isUsed x then InFlight c x else iprop(srcPts m ρ x c ∗ atPos ER (cell c (kX false x)) 0 ∅ 0)

/-- The share of an arrived half slot that stays: what the next hop does not read. -/
def kq (x : X) : PosShare TreeShare := if x.2.1.val = 7 then fullShare else fullShare.right
def kept (c : Dev nD) (x : X) : sProp 𝕄 := slotPts x.1 x.2.1.succ x.2.2 c (kq x) (agF m ρ x.1 c)

/-- A receive before it ends, and after. -/
def rB (c : Dev nD) (x : X) : sProp 𝕄 :=
  if isUsed x then iprop(cred (tallyAt (cell c (kX true x)) () N) ∗ atPos ER (cell c (kX true x)) 0 ∅ 0) else atPos ER (cell c (kX true x)) 0 ∅ 0
def rA (c : Dev nD) (x : X) : sProp 𝕄 :=
  if isUsed x then iprop(semVal (cell c (kX true x)) 0 ∗ kept m ρ c x) else atPos ER (cell c (kX true x)) 0 ∅ 0

def Sends (c : Dev nD) (n : ℕ) : sProp 𝕄 := bigSep Finset.univ (phase (sA m ρ c) (sB (F := F) c) n)
def Recvs (c : Dev nD) (n : ℕ) : sProp 𝕄 := bigSep Finset.univ (phase (rA m ρ c) (rB (F := F) c) n)

theorem sends_used (c : Dev nD) {x : X} (hx : isUsed x = true) :
    Sends m ρ c (key x) ⊢ iprop(SendReady c x ∗ (InFlight c x -∗ Sends m ρ c (key x + 1))) := by
  have h := advance (sA m ρ c) (sB (F := F) c) x
  rwa [show sB (F := F) c x = _ from if_pos hx, show sA m ρ c x = _ from if_pos hx] at h
theorem sends_unused (c : Dev nD) {x : X} (hx : isUsed x = false) :
    Sends m ρ c (key x) ⊢ iprop(atPos ER (cell c (kX false x)) 0 ∅ 0 ∗ ((srcPts m ρ x c ∗ atPos ER (cell c (kX false x)) 0 ∅ 0) -∗ Sends m ρ c (key x + 1))) := by
  have h := advance (sA m ρ c) (sB (F := F) c) x
  have hx' : ¬ isUsed x = true := by rw [hx]; decide
  rwa [show sB (F := F) c x = _ from if_neg hx', show sA m ρ c x = _ from if_neg hx'] at h
theorem recvs_used (c : Dev nD) {x : X} (hx : isUsed x = true) :
    Recvs m ρ c (key x) ⊢ iprop((cred (tallyAt (cell c (kX true x)) () N) ∗ atPos ER (cell c (kX true x)) 0 ∅ 0)
      ∗ ((semVal (cell c (kX true x)) 0 ∗ kept m ρ c x) -∗ Recvs m ρ c (key x + 1))) := by
  have h := advance (rA m ρ c) (rB (F := F) c) x
  rwa [show rB (F := F) c x = _ from if_pos hx, show rA m ρ c x = _ from if_pos hx] at h

theorem sendIf_step (c : Dev nD) (x : X) (Q : PUnit → sProp 𝕄) :
    iprop(recs m ρ K ∗ srcPts m ρ x c ∗ Owes c (key x) ∗ Sends m ρ c (key x) ∗ ((Owes c (key x + 1) ∗ Sends m ρ c (key x + 1)) -∗ Q ⟨⟩))
      ⊢ Wp c (sendIf x.1 x.2.1 x.2.2 (toDev c x.1)) Q := by
  unfold sendIf
  cases hx : isUsed x with
  | true =>
    rw [show used x.1 x.2.1 x.2.2 = true from hx, cond_true]
    iintro ⟨#Hrec, Hs, HO, HS, Hk⟩
    ihave HS := (sends_used m ρ c hx) $$ HS
    icases HS with ⟨HB, HS⟩
    iapply (send_step m ρ K c x hx Q)
    isplitr; · iexact Hrec
    isplitl [Hs]; · iexact Hs
    isplitl [HO]; · iexact HO
    isplitl [HB]; · iexact HB
    iintro ⟨HO, HF⟩
    iapply Hk
    isplitl [HO]; · iexact HO
    iapply HS; iexact HF
  | false =>
    rw [show used x.1 x.2.1 x.2.2 = false from hx, cond_false]
    unfold Wp Owes
    rw [wp_ret, ← owe_skip c hx]
    iintro ⟨#Hrec, Hs, HO, HS, Hk⟩
    ihave HS := (sends_unused m ρ c hx) $$ HS
    icases HS with ⟨HB, HS⟩
    imodintro
    iapply Hk
    isplitl [HO]; · iexact HO
    iapply HS
    isplitl [Hs]; · iexact Hs
    iexact HB

theorem slot_share (d : Bool) (s : Fin 9) (i : Fin 2) (c : Dev nD) (f) :
    slotPts (F := F) d s i c fullShare f ⊢ iprop(slotPts d s i c fullShare.left f ∗ slotPts d s i c fullShare.right f) := by
  unfold slotPts
  exact (pointsTo_share (PosShare.mem_left_op_right fullShare)).1

theorem src_next (d : Bool) (k : Fin 7) (i : Fin 2) (c : Dev nD) :
    slotPts d k.castSucc.succ i c fullShare.left (agF m ρ d c) = srcPts m ρ (d, k.succ, i) c := by
  obtain ⟨k, hk⟩ := k; rfl

/-- An arrival of a hop but the last: one share goes to the next hop's transfer, the other stays. -/
theorem recv_hop (c : Dev nD) (d : Bool) (k : Fin 7) (i : Fin 2) (n : ℕ) (hn : 4 * (k.val + 1) ≤ n) (Q : PUnit → sProp 𝕄) :
    iprop(recs m ρ K ∗ levAts L lv ∗ Owes c n ∗ Recvs m ρ c (key (d, k.castSucc, i))
        ∗ ((Owes c n ∗ Recvs m ρ c (key (d, k.castSucc, i) + 1) ∗ srcPts m ρ (d, k.succ, i) c) -∗ Q ⟨⟩))
      ⊢ Wp c (recvOp d k.castSucc i) Q := by
  have hx : isUsed (d, k.castSucc, i) = true := by clear hn; revert d k i; decide
  have hq : kept m ρ c (d, k.castSucc, i) = slotPts d k.castSucc.succ i c fullShare.right (agF m ρ d c) := by
    unfold kept kq; rw [if_neg (by show ¬ k.val = 7; omega)]
  have hR := recvs_used m ρ c hx
  rw [hq] at hR
  iintro ⟨#Hrec, #Hlev, HO, HR, Hk⟩
  ihave HR := hR $$ HR
  icases HR with ⟨HB, HR⟩
  iapply (recv_step m ρ K c (d, k.castSucc, i) hx n (by show 2 + k.val < _; omega) Q)
  isplitr; · iexact Hrec
  isplitr; · iexact Hlev
  isplitl [HO]; · iexact HO
  isplitl [HB]; · iexact HB
  iintro ⟨HO, Hz, Hf⟩
  unfold slotFull
  ihave Hf := (slot_share d k.castSucc.succ i c (agF m ρ d c)) $$ Hf
  icases Hf with ⟨Hl, Hr⟩
  iapply Hk
  isplitl [HO]; · iexact HO
  isplitl [HR Hz Hr]
  · iapply HR
    isplitl [Hz]; · iexact Hz
    iexact Hr
  ihave Hl := (Entails.of_eq (src_next m ρ d k i c)) $$ Hl
  iexact Hl

/-- An arrival of the last hop: it stays whole. -/
theorem recv_last (c : Dev nD) (d : Bool) (i : Fin 2) (hx : isUsed (d, 7, i) = true) (Q : PUnit → sProp 𝕄) :
    iprop(recs m ρ K ∗ levAts L lv ∗ Owes c 32 ∗ Recvs m ρ c (key (d, 7, i)) ∗ ((Owes c 32 ∗ Recvs m ρ c (key (d, 7, i) + 1)) -∗ Q ⟨⟩))
      ⊢ Wp c (recvOp d 7 i) Q := by
  have hR := recvs_used m ρ c hx
  rw [show kept m ρ c (d, 7, i) = slotFull m ρ (d, 7, i) c by unfold kept kq slotFull; exact congrArg (fun q => slotPts d 8 i c q (agF m ρ d c)) (if_pos rfl)] at hR
  iintro ⟨#Hrec, #Hlev, HO, HR, Hk⟩
  ihave HR := hR $$ HR
  icases HR with ⟨HB, HR⟩
  iapply (recv_step m ρ K c (d, 7, i) hx 32 (by show 2 + 7 < _; decide) Q)
  isplitr; · iexact Hrec
  isplitr; · iexact Hlev
  isplitl [HO]; · iexact HO
  isplitl [HB]; · iexact HB
  iintro ⟨HO, Hz, Hf⟩
  iapply Hk
  isplitl [HO]; · iexact HO
  iapply HR
  isplitl [Hz]; · iexact Hz
  iexact Hf

/-- A receive that never happens is passed over. -/
theorem recv_skip (c : Dev nD) (x : X) (hx : isUsed x = false) : Recvs m ρ c (key x) ⊢ Recvs m ρ c (key x + 1) := by
  have hx' : ¬ isUsed x = true := by rw [hx]; decide
  have h := advance (rA m ρ c) (rB (F := F) c) x
  rw [show rB (F := F) c x = _ from if_neg hx', show rA m ρ c x = _ from if_neg hx'] at h
  unfold Recvs
  iintro HR
  ihave HR := h $$ HR
  icases HR with ⟨HB, HR⟩
  iapply HR; iexact HB

theorem hopHalf_step (c : Dev nD) (k : Fin 7) (i : Fin 2) (Q : PUnit → sProp 𝕄) :
    iprop(recs m ρ K ∗ levAts L lv ∗ Owes c (key (false, k.succ, i)) ∗ Sends m ρ c (key (false, k.succ, i)) ∗ Recvs m ρ c (key (false, k.castSucc, i))
        ∗ ((Owes c (key (true, k.succ, i) + 1) ∗ Sends m ρ c (key (true, k.succ, i) + 1) ∗ Recvs m ρ c (key (true, k.castSucc, i) + 1)) -∗ Q ⟨⟩))
      ⊢ Wp c (hopHalf c k i) Q := by
  have e1 : key (true, k.succ, i) = key (false, k.succ, i) + 1 := rfl
  have e2 : key (true, k.castSucc, i) = key (false, k.castSucc, i) + 1 := rfl
  have hk : key (false, k.succ, i) = 4 * (k.val + 1) + 2 * i.val + 0 := rfl
  unfold hopHalf Wp
  simp only [wp_bind]
  iintro ⟨#Hrec, #Hlev, HO, HS, HR, Hk⟩
  iapply (recv_hop m ρ K c false k i (key (false, k.succ, i)) (by omega))
  isplitr; · iexact Hrec
  isplitr; · iexact Hlev
  isplitl [HO]; · iexact HO
  isplitl [HR]; · iexact HR
  iintro ⟨HO, HR, Hs⟩
  iapply (sendIf_step m ρ K c (false, k.succ, i))
  isplitr; · iexact Hrec
  isplitl [Hs]; · iexact Hs
  isplitl [HO]; · iexact HO
  isplitl [HS]; · iexact HS
  iintro ⟨HO, HS⟩
  iapply (recv_hop m ρ K c true k i (key (false, k.succ, i) + 1) (by omega))
  isplitr; · iexact Hrec
  isplitr; · iexact Hlev
  isplitl [HO]; · iexact HO
  isplitl [HR]; · iexact HR
  iintro ⟨HO, HR, Hs⟩
  iapply (sendIf_step m ρ K c (true, k.succ, i))
  isplitr; · iexact Hrec
  isplitl [Hs]; · iexact Hs
  isplitl [HO]; · iexact HO
  isplitl [HS]; · iexact HS
  iintro ⟨HO, HS⟩
  iapply Hk
  isplitl [HO]; · iexact HO
  isplitl [HS]; · iexact HS
  iexact HR

end Cert.KernelIdeal.Proof
-- ==== Proof.Out.lean ====
module

public import proofs.«01_k».proof.Proof.State

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The gather buffers by half slots -/

/-- The elements of half `i` of slot `s`. -/
def slotSet (s : Fin 9) (i : Fin 2) : Finset S9x256x4096.Idx :=
  (Rect.unit (s := S9x256x4096) ![s.val, 128 * i.val, 0] S1x128x4096.size (inb_slot s i)).set

theorem mem_slotSet (s : Fin 9) (i : Fin 2) (j : S9x256x4096.Idx) : j ∈ slotSet s i ↔ j (0 : Fin 3) = s ∧ (j (1 : Fin 3)).val / 128 = i.val := by
  unfold slotSet
  rw [Rect.mem_set_unit]
  have h2 : (j (2 : Fin 3)).val < 4096 := (j (2 : Fin 3)).isLt
  have hi : i.val < 2 := i.isLt
  constructor
  · intro h
    have h0 := h (0 : Fin 3)
    have h1 := h (1 : Fin 3)
    have a0 : s.val ≤ (j (0 : Fin 3)).val ∧ (j (0 : Fin 3)).val < s.val + 1 := h0
    have a1 : 128 * i.val ≤ (j (1 : Fin 3)).val ∧ (j (1 : Fin 3)).val < 128 * i.val + 128 := h1
    exact ⟨Fin.ext (by omega), by omega⟩
  · rintro ⟨h0, h1⟩ a
    fin_cases a
    · show s.val ≤ (j (0 : Fin 3)).val ∧ (j (0 : Fin 3)).val < s.val + 1
      rw [h0]; omega
    · show 128 * i.val ≤ (j (1 : Fin 3)).val ∧ (j (1 : Fin 3)).val < 128 * i.val + 128
      omega
    · show 0 ≤ (j (2 : Fin 3)).val ∧ (j (2 : Fin 3)).val < 0 + 4096
      omega

theorem slot_set (d : Bool) (s : Fin 9) (i : Fin 2) : (slotM d s i).view.set = (slotSet s i).map (agM d).view.emb := by
  unfold slotM slotSet
  rw [Memref.set_view_squeeze]
  exact View.set_slice _ _

theorem slotSet_disjoint {p q : Fin 9 × Fin 2} (h : p ≠ q) : Disjoint (slotSet p.1 p.2) (slotSet q.1 q.2) := by
  rw [Finset.disjoint_left]
  intro j hp hq
  rw [mem_slotSet] at hp hq
  exact h (Prod.ext (hp.1.symm.trans hq.1) (Fin.ext (hp.2.symm.trans hq.2)))
theorem slotSet_cover : (Finset.univ.biUnion fun p : Fin 9 × Fin 2 => slotSet p.1 p.2) = Finset.univ := by
  ext j
  simp only [Finset.mem_biUnion, Finset.mem_univ, true_and, iff_true]
  have h1 : (j (1 : Fin 3)).val < 256 := (j (1 : Fin 3)).isLt
  exact ⟨(j (0 : Fin 3), ⟨(j (1 : Fin 3)).val / 128, by omega⟩), (mem_slotSet _ _ _).mpr ⟨rfl, rfl⟩⟩

theorem agM_univ (d : Bool) : (agM d).view.set = Finset.univ := by
  cases d <;> exact View.set_whole _

/-! ## What the products read -/

/-- A block of `x` as a slot holds it, and half of one. -/
def lift (x : Vec F S256x4096 .fp8e4m3) : Vec F S1x256x4096 .fp8e4m3 := fun y => x (ix2 (y (1 : Fin 3)) (y (2 : Fin 3)))
def liftHalf (i : Fin 2) (x : Vec F S256x4096 .fp8e4m3) : Vec F S1x128x4096 .fp8e4m3 := fun y =>
  x (ix2 ⟨128 * i.val + (y (1 : Fin 3)).val, by have h : (y (1 : Fin 3)).val < 128 := (y (1 : Fin 3)).isLt; have := i.isLt; omega⟩ (y (2 : Fin 3)))

theorem readAt_slot (d : Bool) (c : Dev nD) (s : Fin 9) :
    (agM d).view.readAt (Elt F) (rSlot s).toLoadRect (agF m ρ d c) = lift (xstg m ρ (orig d c s.val)) := by
  have key : ∀ y : S1x256x4096.Idx, agV m ρ d c ((rSlot s).idx y) = lift (xstg m ρ (orig d c s.val)) y := by
    intro y
    have h0 : (y (0 : Fin 3)).val < 1 := (y (0 : Fin 3)).isLt
    have e0 : ((rSlot s).idx y (0 : Fin 3)).val = s.val := by show s.val + 1 * (y (0 : Fin 3)).val = s.val; omega
    have e1 : (rSlot s).idx y (1 : Fin 3) = y (1 : Fin 3) := Fin.ext (by show 0 + 1 * (y (1 : Fin 3)).val = _; omega)
    have e2 : (rSlot s).idx y (2 : Fin 3) = y (2 : Fin 3) := Fin.ext (by show 0 + 1 * (y (2 : Fin 3)).val = _; omega)
    unfold agV lift
    rw [e0, e1, e2]
  cases d
  · exact funext key
  · exact funext key

theorem readAt_half (d : Bool) (c : Dev nD) (i : Fin 2) :
    (agM d).view.readAt (Elt F) (rHalf i).toLoadRect (agF m ρ d c) = liftHalf i (xstg m ρ (orig d c 8)) := by
  have key : ∀ y : S1x128x4096.Idx, agV m ρ d c ((rHalf i).idx y) = liftHalf i (xstg m ρ (orig d c 8)) y := by
    intro y
    have h0 : (y (0 : Fin 3)).val < 1 := (y (0 : Fin 3)).isLt
    have e0 : ((rHalf i).idx y (0 : Fin 3)).val = 8 := by show 8 + 1 * (y (0 : Fin 3)).val = 8; omega
    have e1 : ((rHalf i).idx y (1 : Fin 3)).val = 128 * i.val + (y (1 : Fin 3)).val := by
      show 128 * i.val + 1 * (y (1 : Fin 3)).val = _; omega
    have e2 : (rHalf i).idx y (2 : Fin 3) = y (2 : Fin 3) := Fin.ext (by show 0 + 1 * (y (2 : Fin 3)).val = _; omega)
    unfold agV liftHalf
    rw [e0, e2]
    exact congrArg (xstg m ρ (orig d c 8)) (congrArg (fun a => ix2 a (y (2 : Fin 3))) (Fin.ext e1))
  cases d
  · exact funext key
  · exact funext key

theorem slotPts_eq (d : Bool) (s : Fin 9) (i : Fin 2) (c : Dev nD) (q : PosShare TreeShare) (f : Buf (Elt F) ((agM d).view.loc (c : Thread nD τ))) :
    slotPts d s i c q f = ((agM d).view.loc (c : Thread nD τ) ↦[(slotSet s i).map (agM d).view.emb]{q} f : sProp 𝕄) := by
  rw [← slot_set]; rfl
theorem slot_union (d : Bool) (s : Fin 9) (c : Dev nD) (q : PosShare TreeShare) (f : Buf (Elt F) ((agM d).view.loc (c : Thread nD τ))) :
    iprop(slotPts d s 0 c q f ∗ slotPts d s 1 c q f) ⊣⊢
      ((agM d).view.loc (c : Thread nD τ) ↦[(slotSet s 0).map (agM d).view.emb ∪ (slotSet s 1).map (agM d).view.emb]{q} f : sProp 𝕄) := by
  have h : Disjoint ((slotSet s 0).map (agM d).view.emb) ((slotSet s 1).map (agM d).view.emb) :=
    (Finset.disjoint_map _).mpr (slotSet_disjoint (p := (s, 0)) (q := (s, 1)) (by intro e; cases e))
  rw [slotPts_eq, slotPts_eq]
  exact ⟨(pointsTo_union h).2, (pointsTo_union h).1⟩

theorem slot_load_sub (d : Bool) (s : Fin 9) : (agM d).view.setOn (rSlot s).toLoadRect.set
    ⊆ (slotSet s 0).map (agM d).view.emb ∪ (slotSet s 1).map (agM d).view.emb := by
  rw [← Finset.map_union]
  refine Finset.map_subset_map.mpr fun j hj => ?_
  have hj' : j ∈ (rSlot s).set := hj
  rw [Rect.mem_set_unit] at hj'
  have h1 : (j (1 : Fin 3)).val < 256 := (j (1 : Fin 3)).isLt
  have a0 : s.val ≤ (j (0 : Fin 3)).val ∧ (j (0 : Fin 3)).val < s.val + 1 := hj' (0 : Fin 3)
  rw [Finset.mem_union, mem_slotSet, mem_slotSet]
  by_cases h : (j (1 : Fin 3)).val < 128
  · exact .inl ⟨Fin.ext (by omega), by show _ = 0; omega⟩
  · exact .inr ⟨Fin.ext (by omega), by show _ = 1; omega⟩

/-! ## The result -/

variable (T : Vec F S4096x512 .f32)

/-- The result buffer, holding `T` wherever `P`. -/
def OutP (c : Dev nD) (P : S4096x512.Idx → Prop) : sProp 𝕄 :=
  iprop(∃ f : Buf (Elt F) ((oM : Memref sig .tc .vmem S4096x512 .f32).view.loc (c : Thread nD τ)), ⌜∀ j : S4096x512.Idx, P j → f j = T j⌝
    ∗ ((oM : Memref sig .tc .vmem S4096x512 .f32).view.loc (c : Thread nD τ) ↦[Finset.univ]{fullShare} f))

theorem out_mono (c : Dev nD) {P P' : S4096x512.Idx → Prop} (h : ∀ j, P' j → P j) : OutP T c P ⊢ OutP T c P' := by
  unfold OutP
  iintro ⟨%f, %hf, H⟩
  iexists f
  isplitr; · ipureintro; exact fun j hj => hf j (h j hj)
  iexact H

theorem write_at (r : Rect S4096x512) (w : r.shape.Idx → Elt F .f32) (f : Vec F S4096x512 .f32) (P : S4096x512.Idx → Prop)
    (hf : ∀ j, P j → f j = T j) (hw : ∀ y : r.shape.Idx, T (r.idx y) = w y) (j : S4096x512.Idx) (hj : P j ∨ j ∈ r.set) :
    ((oM : Memref sig .tc .vmem S4096x512 .f32).access r : View sig .tc _ _ _).write (Elt F) f w Finset.univ j = T j := by
  by_cases h : j ∈ r.set
  · obtain ⟨y, rfl⟩ := r.toLoadRect.exists_idx_of_mem h
    refine ((oM : Memref sig .tc .vmem S4096x512 .f32).access r).write_emb_of_mem (Val := Elt F) f w (Finset.mem_univ y) |>.trans ?_
    exact (hw y).symm
  · refine (View.write_of_not_mem (v := ((oM : Memref sig .tc .vmem S4096x512 .f32).access r : View sig .tc _ _ _)) (Val := Elt F) f w Finset.univ ?_).trans
      (hf j (hj.resolve_right h))
    intro hm
    obtain ⟨y, -, rfl⟩ := Finset.mem_map.mp hm
    exact h (r.toLoadRect.idx_mem y)

end Cert.KernelIdeal.Proof
-- ==== Proof.Hops.lean ====
module

public import proofs.«01_k».proof.Proof.Out

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (T : Vec F S4096x512 .f32)

/-! ## The products -/

theorem dot_step (c : Dev nD) (d : Bool) (s : Fin 9) (off : Fin 2 → Nat) (hin : ∀ a, off a + S256x512.size a ≤ S4096x512.size a) (v : F .f32)
    (w : FVec F S4096x512 .fp8e5m2) (q : PosShare TreeShare) (P : S4096x512.Idx → Prop)
    (hT : ∀ y : S256x512.Idx, T ((Rect.unit (s := S4096x512) off S256x512.size hin).idx y) = k0_pay4 v w (lift (xstg m ρ (orig d c s.val))) y)
    (Q : PUnit → sProp 𝕄) :
    iprop(OutP T c P ∗ slotPts d s 0 c q (agF m ρ d c) ∗ slotPts d s 1 c q (agF m ρ d c)
        ∗ ((OutP T c (fun j => P j ∨ j ∈ (Rect.unit (s := S4096x512) off S256x512.size hin).set)
          ∗ slotPts d s 0 c q (agF m ρ d c) ∗ slotPts d s 1 c q (agF m ρ d c)) -∗ Q ⟨⟩))
      ⊢ Wp c (dotOp d s off hin v w) Q := by
  unfold dotOp
  simp only [Prog.lift, Prog.bind_op, Prog.bind_ret]
  iintro ⟨HO, H0, H1, Hk⟩
  unfold OutP
  icases HO with ⟨%f, %hf, Hout⟩
  ihave Hs := (slot_union d s c q (agF m ρ d c)).1 $$ [H0 H1]
  · isplitl [H0]; · iexact H0
    iexact H1
  iapply (wp_load 𝒱₀ (c : Thread nD τ) none Set.univ (m := agM d) (slot_load_sub d s)) $$ Hs; iintro Hs
  rw [readAt_slot]
  iapply (wp_load 𝒱₀ (c : Thread nD τ) none Set.univ (m := oM) (Finset.subset_univ _)) $$ Hout; iintro Hout
  iapply (wp_store 𝒱₀ (c : Thread nD τ) none Set.univ (m := oM) (r := Rect.unit (s := S4096x512) off S256x512.size hin) (Mk := Finset.univ)
    (Finset.subset_univ _)) $$ Hout; iintro Hout
  rw [wp_ret]; imodintro
  ihave Hs := (slot_union d s c q (agF m ρ d c)).2 $$ Hs
  iapply Hk
  isplitl [Hout]
  · iexists _
    isplitr
    · ipureintro
      exact fun j hj => write_at T (Rect.unit (s := S4096x512) off S256x512.size hin) _ f P hf hT j hj
    iexact Hout
  iexact Hs

theorem half_load_sub (d : Bool) (i : Fin 2) : (agM d).view.setOn (rHalf i).toLoadRect.set ⊆ (slotSet 8 i).map (agM d).view.emb := subset_refl _

theorem half_step (c : Dev nD) (d : Bool) (i : Fin 2) (off : Fin 2 → Nat) (hin : ∀ a, off a + S128x512.size a ≤ S4096x512.size a) (v : F .f32)
    (w : FVec F S4096x512 .fp8e5m2) (q : PosShare TreeShare) (P : S4096x512.Idx → Prop)
    (hT : ∀ y : S128x512.Idx, T ((Rect.unit (s := S4096x512) off S128x512.size hin).idx y) = k0_pay18 v w (liftHalf i (xstg m ρ (orig d c 8))) y)
    (Q : PUnit → sProp 𝕄) :
    iprop(OutP T c P ∗ slotPts d 8 i c q (agF m ρ d c)
        ∗ ((OutP T c (fun j => P j ∨ j ∈ (Rect.unit (s := S4096x512) off S128x512.size hin).set) ∗ slotPts d 8 i c q (agF m ρ d c)) -∗ Q ⟨⟩))
      ⊢ Wp c (dotHalf d i off hin v w) Q := by
  unfold dotHalf
  simp only [Prog.lift, Prog.bind_op, Prog.bind_ret]
  rw [slotPts_eq]
  iintro ⟨HO, Hs, Hk⟩
  unfold OutP
  icases HO with ⟨%f, %hf, Hout⟩
  iapply (wp_load 𝒱₀ (c : Thread nD τ) none Set.univ (m := agM d) (half_load_sub d i)) $$ Hs; iintro Hs
  rw [readAt_half]
  iapply (wp_load 𝒱₀ (c : Thread nD τ) none Set.univ (m := oM) (Finset.subset_univ _)) $$ Hout; iintro Hout
  iapply (wp_store 𝒱₀ (c : Thread nD τ) none Set.univ (m := oM) (r := Rect.unit (s := S4096x512) off S128x512.size hin) (Mk := Finset.univ)
    (Finset.subset_univ _)) $$ Hout; iintro Hout
  rw [wp_ret]; imodintro
  iapply Hk
  isplitl [Hout]
  · iexists _
    isplitr
    · ipureintro
      exact fun j hj => write_at T (Rect.unit (s := S4096x512) off S128x512.size hin) _ f P hf hT j hj
    iexact Hout
  iexact Hs

theorem hz2 : (![0, 0] : Fin 2 → Nat) = fun _ => 0 := funext fun a => by fin_cases a <;> rfl

theorem own_step (c : Dev nD) (s1 s2 : Elt F .f32) (wv : Vec F S4096x512 .f32) (q : PosShare TreeShare)
    (hT : ∀ y : S256x512.Idx, T ((rOwn c).idx y) = k0_pay3 s1 s2 wv (xstg m ρ c) y) (Q : PUnit → sProp 𝕄) :
    iprop(OutP T c (fun _ => False) ∗ ((xM : Memref sig .tc .vmem S256x4096 .fp8e4m3).view.loc (c : Thread nD τ) ↦[Finset.univ]{q} (xstg m ρ c))
        ∗ ((OutP T c (fun j => j ∈ (rOwn c).set)
          ∗ ((xM : Memref sig .tc .vmem S256x4096 .fp8e4m3).view.loc (c : Thread nD τ) ↦[Finset.univ]{q} (xstg m ρ c))) -∗ Q ⟨⟩))
      ⊢ Wp c (ownDot c s1 s2 wv) Q := by
  unfold ownDot
  simp only [Prog.lift, Prog.bind_op, Prog.bind_ret]
  iintro ⟨HO, Hs, Hk⟩
  unfold OutP
  icases HO with ⟨%f, %hf, Hout⟩
  iapply (wp_load 𝒱₀ (c : Thread nD τ) none Set.univ (m := xM) (Finset.subset_univ _)) $$ Hs; iintro Hs
  rw [show (xM : Memref sig .tc .vmem S256x4096 .fp8e4m3).view.readAt (Elt F) rX.toLoadRect (xstg m ρ c) = xstg m ρ c from
    Memref.readAt_unit_zero (Elt F) cc0_stg0_0 hz2 _ _]
  iapply (wp_load 𝒱₀ (c : Thread nD τ) none Set.univ (m := oM) (Finset.subset_univ _)) $$ Hout; iintro Hout
  iapply (wp_store 𝒱₀ (c : Thread nD τ) none Set.univ (m := oM) (r := rOwn c) (Mk := Finset.univ) (Finset.subset_univ _)) $$ Hout; iintro Hout
  rw [wp_ret]; imodintro
  iapply Hk
  isplitl [Hout]
  · iexists _
    isplitr
    · ipureintro
      exact fun j hj => write_at T (rOwn c) _ f (fun _ => False) hf hT j (.inr hj)
    iexact Hout
  iexact Hs

/-! ## The hops -/

/-- The rows of the blocks at most `k` steps away round the ring. -/
def near (c : Dev nD) (k : ℕ) (j : S4096x512.Idx) : Prop :=
  ((j (0 : Fin 2)).val / 256 + 16 - c.val) % 16 ≤ k ∨ (c.val + 16 - (j (0 : Fin 2)).val / 256) % 16 ≤ k

/-- The value the products must have: the result's rows, block by block. -/
structure Rows (c : Dev nD) (v : F .f32) (w : FVec F S4096x512 .fp8e5m2) : Prop where
  block : ∀ (d : Bool) (k : Fin 7) (hin : ∀ a, (![256 * (orig d c (k.val + 1)).val, 0] : Fin 2 → Nat) a + S256x512.size a ≤ S4096x512.size a) (y : S256x512.Idx),
    T ((Rect.unit (s := S4096x512) ![256 * (orig d c (k.val + 1)).val, 0] S256x512.size hin).idx y) = k0_pay4 v w (lift (xstg m ρ (orig d c (k.val + 1)))) y
  half : ∀ (i : Fin 2) (hin : ∀ a, (![256 * ((c.val + 8) % 16) + 128 * i.val, 0] : Fin 2 → Nat) a + S128x512.size a ≤ S4096x512.size a) (y : S128x512.Idx),
    T ((Rect.unit (s := S4096x512) ![256 * ((c.val + 8) % 16) + 128 * i.val, 0] S128x512.size hin).idx y)
      = k0_pay18 v w (liftHalf i (xstg m ρ ⟨(c.val + 8) % 16, Nat.mod_lt _ (by decide)⟩)) y

theorem mem_rows {o h : ℕ} {size : Fin 2 → ℕ} (hs : size = ![h, 512]) {inb : ∀ a, (![o, 0] : Fin 2 → Nat) a + size a ≤ S4096x512.size a} (j : S4096x512.Idx) :
    j ∈ (Rect.unit (s := S4096x512) ![o, 0] size inb).set ↔ o ≤ (j (0 : Fin 2)).val ∧ (j (0 : Fin 2)).val < o + h := by
  subst hs
  rw [Rect.mem_set_unit]
  have h1 : (j (1 : Fin 2)).val < 512 := (j (1 : Fin 2)).isLt
  constructor
  · exact fun hj => hj (0 : Fin 2)
  · intro hj a
    fin_cases a
    · exact hj
    · show 0 ≤ (j (1 : Fin 2)).val ∧ (j (1 : Fin 2)).val < 0 + 512
      omega

/-- A product of a hop, its rows given by the block's own device. -/
theorem dot_at (c : Dev nD) (v : F .f32) (w : FVec F S4096x512 .fp8e5m2) (hR : Rows m ρ T c v w) (d : Bool) (k : Fin 7) (off : Fin 2 → Nat)
    (hin : ∀ a, off a + S256x512.size a ≤ S4096x512.size a) (hoff : off = ![256 * (orig d c (k.val + 1)).val, 0]) (P : S4096x512.Idx → Prop)
    (Q : PUnit → sProp 𝕄) :
    iprop(OutP T c P ∗ Recvs m ρ c (4 * (k.val + 1))
        ∗ ((OutP T c (fun j => P j ∨ (j (0 : Fin 2)).val / 256 = (orig d c (k.val + 1)).val) ∗ Recvs m ρ c (4 * (k.val + 1))) -∗ Q ⟨⟩))
      ⊢ Wp c (dotOp d k.succ.castSucc off hin v w) Q := by
  subst hoff
  have hx : ∀ i : Fin 2, isUsed (d, k.castSucc, i) = true := by intro i; clear hR hin; revert d k i; decide
  have hq : ∀ i : Fin 2, kept m ρ c (d, k.castSucc, i) = slotPts d k.succ.castSucc i c fullShare.right (agF m ρ d c) := by
    intro i
    refine (congrArg (fun q => slotPts d k.castSucc.succ i c q (agF m ρ d c)) (if_neg ?_)).trans rfl
    show ¬ k.val = 7; omega
  have hA : ∀ i : Fin 2, rA m ρ c (d, k.castSucc, i)
      = iprop(semVal (cell c (kX true (d, k.castSucc, i))) 0 ∗ slotPts d k.succ.castSucc i c fullShare.right (agF m ρ d c)) := by
    intro i; rw [← hq]; exact if_pos (hx i)
  have hp := peek₂ (rA m ρ c) (rB (F := F) c) (4 * (k.val + 1)) (d, k.castSucc, 0) (d, k.castSucc, 1) (by intro e; cases e)
    (by show 4 * k.val + 2 * 0 + d.toNat < _; have := Bool.toNat_lt d; omega)
    (by show 4 * k.val + 2 * 1 + d.toNat < _; have := Bool.toNat_lt d; omega)
  rw [hA, hA] at hp
  have hm : ∀ j : S4096x512.Idx, P j ∨ (j (0 : Fin 2)).val / 256 = (orig d c (k.val + 1)).val →
      P j ∨ j ∈ (Rect.unit (s := S4096x512) ![256 * (orig d c (k.val + 1)).val, 0] S256x512.size hin).set := by
    rintro j (h | h)
    · exact .inl h
    · exact .inr ((mem_rows rfl j).mpr (by omega))
  unfold Recvs
  iintro ⟨HO, HR, Hk⟩
  ihave HR := hp $$ HR
  icases HR with ⟨⟨Hz0, H0⟩, ⟨Hz1, H1⟩, HR⟩
  iapply (dot_step m ρ T c d k.succ.castSucc _ hin v w fullShare.right P (hR.block d k hin) Q)
  isplitl [HO]; · iexact HO
  isplitl [H0]; · iexact H0
  isplitl [H1]; · iexact H1
  iintro ⟨HO, H0, H1⟩
  iapply Hk
  isplitl [HO]; · iapply (out_mono T c hm); iexact HO
  iapply HR
  isplitl [Hz0 H0]
  · isplitl [Hz0]; · iexact Hz0
    iexact H0
  isplitl [Hz1]; · iexact Hz1
  iexact H1

/-- Before hop `k`. -/
def St (c : Dev nD) (k : ℕ) : sProp 𝕄 :=
  iprop(Owes c (4 * (k + 1)) ∗ Sends m ρ c (4 * (k + 1)) ∗ Recvs m ρ c (4 * k) ∗ OutP T c (near c k))

theorem hop_step (c : Dev nD) (v : F .f32) (w : FVec F S4096x512 .fp8e5m2) (hR : Rows m ρ T c v w) (k : Fin 7) (Q : PUnit → sProp 𝕄) :
    iprop(recs m ρ K ∗ levAts L lv ∗ St m ρ T c k.val ∗ (St m ρ T c (k.val + 1) -∗ Q ⟨⟩)) ⊢ Wp c (hop c v w k) Q := by
  have hc : c.val < 16 := c.isLt
  have hm : ∀ j, near c (k.val + 1) j → ((near c k.val j ∨ (j (0 : Fin 2)).val / 256 = (orig false c (k.val + 1)).val)
      ∨ (j (0 : Fin 2)).val / 256 = (orig true c (k.val + 1)).val) := by
    intro j hj
    have hj0 : (j (0 : Fin 2)).val / 256 < 16 := by have h : (j (0 : Fin 2)).val < 4096 := (j (0 : Fin 2)).isLt; omega
    have hk : k.val < 7 := k.isLt
    show (_ ∨ (j (0 : Fin 2)).val / 256 = (c.val + 15 * (k.val + 1)) % 16) ∨ (j (0 : Fin 2)).val / 256 = (c.val + (k.val + 1)) % 16
    unfold near at hj ⊢
    generalize (j (0 : Fin 2)).val / 256 = o at *
    omega
  unfold hop Wp St
  simp only [wp_bind]
  iintro ⟨#Hrec, #Hlev, ⟨HO, HS, HR, Hout⟩, Hk⟩
  iapply (hopHalf_step m ρ K c k 0)
  isplitr; · iexact Hrec
  isplitr; · iexact Hlev
  isplitl [HO]; · iexact HO
  isplitl [HS]; · iexact HS
  isplitl [HR]; · iexact HR
  iintro ⟨HO, HS, HR⟩
  iapply (hopHalf_step m ρ K c k 1)
  isplitr; · iexact Hrec
  isplitr; · iexact Hlev
  isplitl [HO]; · iexact HO
  isplitl [HS]; · iexact HS
  isplitl [HR]; · iexact HR
  iintro ⟨HO, HS, HR⟩
  iapply (dot_at m ρ T c v w hR false k _ _ ((k0_off2_eq c k).trans (by
    refine congrArg (fun n : ℕ => (![256 * n, 0] : Fin 2 → ℕ)) ?_
    show _ = (c.val + 15 * (k.val + 1)) % 16
    have hk : k.val < 7 := k.isLt
    omega)) (near c k.val))
  isplitl [Hout]; · iexact Hout
  isplitl [HR]; · iexact HR
  iintro ⟨Hout, HR⟩
  iapply (dot_at m ρ T c v w hR true k _ _ ((k0_off3_eq c k).trans (by
    refine congrArg (fun n : ℕ => (![256 * n, 0] : Fin 2 → ℕ)) ?_
    show _ = (c.val + (k.val + 1)) % 16
    rw [Nat.add_assoc])) _)
  isplitl [Hout]; · iexact Hout
  isplitl [HR]; · iexact HR
  iintro ⟨Hout, HR⟩
  iapply Hk
  isplitl [HO]; · iexact HO
  isplitl [HS]; · iexact HS
  isplitl [HR]; · iexact HR
  iapply (out_mono T c hm); iexact Hout

end Cert.KernelIdeal.Proof
-- ==== Proof.Tail.lean ====
module

public import proofs.«01_k».proof.Proof.Hops

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (T : Vec F S4096x512 .f32)

/-! ## All the hops -/

theorem hops_nil (c : Dev nD) (v : F .f32) (w : FVec F S4096x512 .fp8e5m2) (Q : PUnit → sProp 𝕄) :
    iprop(recs m ρ K ∗ levAts L lv ∗ St m ρ T c 7 ∗ (St m ρ T c 7 -∗ Q ⟨⟩)) ⊢ Wp c (hops c v w []) Q := by
  unfold hops Wp
  rw [wp_ret]
  iintro ⟨-, -, HS, Hk⟩
  imodintro
  iapply Hk; iexact HS

theorem hops_cons (c : Dev nD) (v : F .f32) (w : FVec F S4096x512 .fp8e5m2) (hR : Rows m ρ T c v w) (k : Fin 7) (ks : List (Fin 7)) (Q : PUnit → sProp 𝕄)
    (h : iprop(recs m ρ K ∗ levAts L lv ∗ St m ρ T c (k.val + 1) ∗ (St m ρ T c 7 -∗ Q ⟨⟩)) ⊢ Wp c (hops c v w ks) Q) :
    iprop(recs m ρ K ∗ levAts L lv ∗ St m ρ T c k.val ∗ (St m ρ T c 7 -∗ Q ⟨⟩)) ⊢ Wp c (hops c v w (k :: ks)) Q := by
  unfold hops Wp
  rw [wp_bind]
  iintro ⟨#Hrec, #Hlev, HS, Hk⟩
  iapply (hop_step m ρ K T c v w hR k)
  isplitr; · iexact Hrec
  isplitr; · iexact Hlev
  isplitl [HS]; · iexact HS
  iintro HS
  iapply h
  isplitr; · iexact Hrec
  isplitr; · iexact Hlev
  isplitl [HS]; · iexact HS
  iexact Hk

theorem hops_all (c : Dev nD) (v : F .f32) (w : FVec F S4096x512 .fp8e5m2) (hR : Rows m ρ T c v w) (Q : PUnit → sProp 𝕄) :
    iprop(recs m ρ K ∗ levAts L lv ∗ St m ρ T c 0 ∗ (St m ρ T c 7 -∗ Q ⟨⟩)) ⊢ Wp c (hops c v w [0, 1, 2, 3, 4, 5, 6]) Q :=
  hops_cons m ρ K T c v w hR 0 _ Q <| hops_cons m ρ K T c v w hR 1 _ Q <| hops_cons m ρ K T c v w hR 2 _ Q <| hops_cons m ρ K T c v w hR 3 _ Q <|
    hops_cons m ρ K T c v w hR 4 _ Q <| hops_cons m ρ K T c v w hR 5 _ Q <| hops_cons m ρ K T c v w hR 6 _ Q <| hops_nil m ρ K T c v w Q

/-! ## The sends' ends -/

/-- A send once waited for; one that never was, untouched. -/
def sD (c : Dev nD) (x : X) : sProp 𝕄 :=
  if isUsed x then iprop(semVal (cell c (kX false x)) 0 ∗ srcPts m ρ x c) else iprop(srcPts m ρ x c ∗ atPos ER (cell c (kX false x)) 0 ∅ 0)

/-- The sends of a list under way, the others over. -/
def sL (c : Dev nD) (l : List X) (x : X) : sProp 𝕄 := if x ∈ l then InFlight c x else sD m ρ c x

theorem drains_step (c : Dev nD) (Q : PUnit → sProp 𝕄) : ∀ l : List X, l.Nodup → (∀ x ∈ l, isUsed x = true) →
    iprop(recs m ρ K ∗ Owes c 32 ∗ bigSep Finset.univ (sL m ρ c l) ∗ ((Owes c 32 ∗ bigSep Finset.univ (sD m ρ c)) -∗ |={Set.univ}=> Q ⟨⟩)) ⊢ Wp c (drains l) Q
  | [], _, _ => by
    unfold drains Wp
    rw [wp_ret, bigSep_congr (Φ := sL m ρ c []) (Ψ := sD m ρ c) fun x _ => (if_neg (List.not_mem_nil) : sL m ρ c [] x = _)]
    iintro ⟨-, HO, HS, Hk⟩
    iapply Hk
    isplitl [HO]; · iexact HO
    iexact HS
  | x :: l, hn, hu => by
    have hx : isUsed x = true := hu x List.mem_cons_self
    have hxl : x ∉ l := (List.nodup_cons.mp hn).1
    have ih := drains_step c Q l (List.nodup_cons.mp hn).2 fun y hy => hu y (List.mem_cons_of_mem _ hy)
    rw [bigSep_univ_at (sL m ρ c l) x, show sL m ρ c l x = _ from if_neg hxl, show sD m ρ c x = _ from if_pos hx] at ih
    unfold drains Wp
    rw [wp_bind, bigSep_univ_at (sL m ρ c (x :: l)) x, show sL m ρ c (x :: l) x = InFlight c x from if_pos List.mem_cons_self,
      bigSep_congr (Ψ := sL m ρ c l) fun y hy => by
        have hne : y ≠ x := (Finset.mem_erase.mp hy).1
        unfold sL
        exact if_congr ⟨fun h => (List.mem_cons.mp h).resolve_left hne, List.mem_cons_of_mem _⟩ rfl rfl]
    iintro ⟨#Hrec, HO, ⟨HF, HS⟩, Hk⟩
    iapply (drain_step m ρ K c x hx)
    isplitr; · iexact Hrec
    isplitl [HO]; · iexact HO
    isplitl [HF]; · iexact HF
    iintro ⟨HO, Hz, Hs⟩
    iapply ih
    isplitr; · iexact Hrec
    isplitl [HO]; · iexact HO
    isplitl [HS Hz Hs]
    · isplitl [Hz Hs]
      · isplitl [Hz]; · iexact Hz
        iexact Hs
      iexact HS
    iexact Hk

theorem drainList_mem (x : X) : x ∈ drainList ↔ isUsed x = true := by revert x; decide

theorem sends_over (c : Dev nD) : Sends m ρ c 32 = bigSep Finset.univ (sL m ρ c drainList) := by
  unfold Sends
  refine bigSep_congr fun x _ => ?_
  unfold phase sL sA sD
  rw [if_pos (key_lt x)]
  by_cases h : isUsed x = true
  · rw [if_pos h, if_pos ((drainList_mem x).mpr h)]
  · rw [if_neg h, if_neg (fun h' => h ((drainList_mem x).mp h')), if_neg h]

/-! ## The last hop's products, and the sends' ends -/

theorem orig_eight (d : Bool) (c : Dev nD) : orig d c 8 = ⟨(c.val + 8) % 16, Nat.mod_lt _ (by decide)⟩ := by revert d c; decide

theorem half_at (c : Dev nD) (v : F .f32) (w : FVec F S4096x512 .fp8e5m2) (hR : Rows m ρ T c v w) (d : Bool) (i : Fin 2) (hx : isUsed (d, 7, i) = true) (off : Fin 2 → Nat)
    (hin : ∀ a, off a + S128x512.size a ≤ S4096x512.size a) (hoff : off = ![256 * ((c.val + 8) % 16) + 128 * i.val, 0]) (P : S4096x512.Idx → Prop)
    (Q : PUnit → sProp 𝕄) :
    iprop(OutP T c P ∗ Recvs m ρ c 32
        ∗ ((OutP T c (fun j => P j ∨ (j (0 : Fin 2)).val / 128 = 2 * ((c.val + 8) % 16) + i.val) ∗ Recvs m ρ c 32) -∗ Q ⟨⟩))
      ⊢ Wp c (dotHalf d i off hin v w) Q := by
  subst hoff
  have hA : rA m ρ c (d, 7, i) = iprop(semVal (cell c (kX true (d, 7, i))) 0 ∗ slotPts d 8 i c fullShare (agF m ρ d c)) := by
    refine (if_pos hx).trans (congrArg (fun P => iprop(semVal (cell c (kX true (d, 7, i))) 0 ∗ P)) ?_)
    exact congrArg (fun q => slotPts d 8 i c q (agF m ρ d c)) (if_pos rfl)
  have hp := peek (rA m ρ c) (rB (F := F) c) 32 (d, 7, i) (key_lt _)
  rw [hA] at hp
  have hm : ∀ j : S4096x512.Idx, P j ∨ (j (0 : Fin 2)).val / 128 = 2 * ((c.val + 8) % 16) + i.val →
      P j ∨ j ∈ (Rect.unit (s := S4096x512) ![256 * ((c.val + 8) % 16) + 128 * i.val, 0] S128x512.size hin).set := by
    rintro j (h | h)
    · exact .inl h
    · exact .inr ((mem_rows rfl j).mpr (by omega))
  unfold Recvs
  iintro ⟨HO, HR, Hk⟩
  ihave HR := hp $$ HR
  icases HR with ⟨⟨Hz, H0⟩, HR⟩
  iapply (half_step m ρ T c d i _ hin v w fullShare P (by rw [orig_eight]; exact hR.half i hin) Q)
  isplitl [HO]; · iexact HO
  isplitl [H0]; · iexact H0
  iintro ⟨HO, H0⟩
  iapply Hk
  isplitl [HO]; · iapply (out_mono T c hm); iexact HO
  iapply HR
  isplitl [Hz]; · iexact Hz
  iexact H0

theorem tail_step (c : Dev nD) (v : F .f32) (w : FVec F S4096x512 .fp8e5m2) (hR : Rows m ρ T c v w) (Q : PUnit → sProp 𝕄) :
    iprop(recs m ρ K ∗ levAts L lv ∗ St m ρ T c 7
        ∗ ((Owes c 32 ∗ bigSep Finset.univ (sD m ρ c) ∗ Recvs m ρ c 32 ∗ OutP T c (fun _ => True)) -∗ |={Set.univ}=> Q ⟨⟩))
      ⊢ Wp c (tailProg c v w) Q := by
  have hm : ∀ j, True → ((near c 7 j ∨ (j (0 : Fin 2)).val / 128 = 2 * ((c.val + 8) % 16) + (0 : Fin 2).val)
      ∨ (j (0 : Fin 2)).val / 128 = 2 * ((c.val + 8) % 16) + (1 : Fin 2).val) := by
    intro j _
    have hc : c.val < 16 := c.isLt
    have hj0 : (j (0 : Fin 2)).val / 256 < 16 := by have h : (j (0 : Fin 2)).val < 4096 := (j (0 : Fin 2)).isLt; omega
    have hj1 : (j (0 : Fin 2)).val / 128 / 2 = (j (0 : Fin 2)).val / 256 := Nat.div_div_eq_div_mul _ 128 2
    show (_ ∨ _ = 2 * ((c.val + 8) % 16) + 0) ∨ _ = 2 * ((c.val + 8) % 16) + 1
    unfold near
    generalize (j (0 : Fin 2)).val / 256 = o at *
    generalize (j (0 : Fin 2)).val / 128 = p at *
    omega
  have hsk : Recvs m ρ c (key (false, 7, 0) + 1) ⊢ Recvs m ρ c (key (true, 7, 1)) :=
    (recv_skip m ρ c (true, 7, 0) rfl).trans (recv_skip m ρ c (false, 7, 1) rfl)
  unfold tailProg Wp St
  simp only [wp_bind]
  iintro ⟨#Hrec, #Hlev, ⟨HO, HS, HR, Hout⟩, Hk⟩
  iapply (recv_last m ρ K c false 0 rfl)
  isplitr; · iexact Hrec
  isplitr; · iexact Hlev
  isplitl [HO]; · iexact HO
  isplitl [HR]; · iexact HR
  iintro ⟨HO, HR⟩
  ihave HR := hsk $$ HR
  iapply (recv_last m ρ K c true 1 rfl)
  isplitr; · iexact Hrec
  isplitr; · iexact Hlev
  isplitl [HO]; · iexact HO
  isplitl [HR]; · iexact HR
  iintro ⟨HO, HR⟩
  iapply (half_at m ρ T c v w hR false 0 rfl _ _ (k0_off4_eq c) (near c 7))
  isplitl [Hout]; · iexact Hout
  isplitl [HR]; · iexact HR
  iintro ⟨Hout, HR⟩
  iapply (half_at m ρ T c v w hR true 1 rfl _ _ (k0_off5_eq c) _)
  isplitl [Hout]; · iexact Hout
  isplitl [HR]; · iexact HR
  iintro ⟨Hout, HR⟩
  ihave HS := (Entails.of_eq (sends_over m ρ c)) $$ HS
  iapply (drains_step m ρ K c Q drainList (by decide) (fun x => (drainList_mem x).mp))
  isplitr; · iexact Hrec
  isplitl [HO]; · iexact HO
  isplitl [HS]; · iexact HS
  iintro ⟨HO, HS⟩
  iapply Hk
  isplitl [HO]; · iexact HO
  isplitl [HS]; · iexact HS
  isplitl [HR]; · iexact HR
  iapply (out_mono T c hm); iexact Hout

/-! ## The cells nobody used -/

theorem close_unused (c : Dev nD) (r : Bool) {x : X} (hx : isUsed x = false) :
    iprop(recs m ρ K ∗ atPos ER (cell c (kX r x)) 0 ∅ 0) ⊢ (|={Set.univ}=> semVal (cell c (kX r x)) 0 : sProp 𝕄) := by
  have hd : ∀ n, 0 ≤ n → (Rd (F := F) m ρ).duties (cell c (kX r x)) n = ∅ := by
    intro n _
    rcases Nat.eq_zero_or_pos n with h | h
    · rw [h, Rd_duties, duty_unused hx]
    · exact Rd_later m ρ _ n h
  iintro ⟨#Hrec, Hat⟩
  ihave HiR := (recs_at m ρ K c (kX r x)) $$ Hrec
  icases HiR with ⟨#HiR, -⟩
  imod (Rounds.cell_close ER (Rd m ρ) (Set.mem_univ (K (c, kX r x))) (fun h => h) (R := 0) hd) $$ [Hat] with Hz
  · isplitr; · iexact HiR
    iexact Hat
  imodintro
  iexact Hz

theorem with_recs {Φ Ψ : X → sProp 𝕄} (h : ∀ x, iprop(recs m ρ K ∗ Φ x) ⊢ |={Set.univ}=> Ψ x) :
    iprop(recs m ρ K ∗ bigSep Finset.univ Φ) ⊢ |={Set.univ}=> bigSep Finset.univ Ψ :=
  (sep_mono_left (BI.bigSep_of_persistent Finset.univ (recs m ρ K))).trans (by
    rw [← bigSep_sep']; exact (bigSep_mono fun x _ => h x).trans (bigSep_fupd _ _))

theorem sends_close (c : Dev nD) : iprop(recs m ρ K ∗ bigSep Finset.univ (sD m ρ c))
    ⊢ |={Set.univ}=> bigSep Finset.univ fun x : X => iprop(semVal (cell c (kX false x)) 0 ∗ srcPts m ρ x c) := by
  refine with_recs m ρ K fun x => ?_
  unfold sD
  by_cases h : isUsed x = true
  · rw [if_pos h]
    iintro ⟨-, H⟩
    imodintro; iexact H
  · rw [if_neg h]
    iintro ⟨#Hrec, Hs, Hat⟩
    imod (close_unused m ρ K c false (Bool.eq_false_iff.mpr h)) $$ [Hat] with Hz
    · isplitr; · iexact Hrec
      iexact Hat
    imodintro
    isplitl [Hz]; · iexact Hz
    iexact Hs

theorem recvs_close (c : Dev nD) : iprop(recs m ρ K ∗ Recvs m ρ c 32)
    ⊢ |={Set.univ}=> bigSep Finset.univ fun x : X => iprop(semVal (cell c (kX true x)) 0 ∗ if isUsed x then kept m ρ c x else iprop(emp)) := by
  refine with_recs m ρ K fun x => ?_
  unfold phase rA
  rw [if_pos (key_lt x)]
  by_cases h : isUsed x = true
  · rw [if_pos h, if_pos h]
    iintro ⟨-, H⟩
    imodintro; iexact H
  · rw [if_neg h, if_neg h]
    iintro ⟨#Hrec, Hat⟩
    imod (close_unused m ρ K c true (Bool.eq_false_iff.mpr h)) $$ [Hat] with Hz
    · isplitr; · iexact Hrec
      iexact Hat
    imodintro
    isplitl [Hz]; · iexact Hz
    iempintro

end Cert.KernelIdeal.Proof
-- ==== Proof.Scratch.lean ====
module

public import proofs.«01_k».proof.Proof.Tail

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the indices met here -/

theorem fin_succ {n : ℕ} (Φ : Fin (n + 1) → sProp 𝕄) : bigSep Finset.univ Φ = iprop(Φ 0 ∗ bigSep Finset.univ fun k : Fin n => Φ k.succ) := by
  rw [Fin.univ_succ, Finset.cons_eq_insert, bigSep_insert (by simp [Fin.succ_ne_zero]), bigSep_map]; rfl
theorem fin_last {n : ℕ} (Φ : Fin (n + 1) → sProp 𝕄) : bigSep Finset.univ Φ = iprop(Φ (Fin.last n) ∗ bigSep Finset.univ fun k : Fin n => Φ k.castSucc) := by
  rw [Fin.univ_castSuccEmb, Finset.cons_eq_insert, bigSep_insert (by simp [Fin.castSucc_ne_last]), bigSep_map]; rfl
theorem over_bool (Φ : Bool → sProp 𝕄) : bigSep Finset.univ Φ = iprop(Φ false ∗ Φ true) :=
  bigSep_univ_eq_bigSepL [false, true] (by decide) (by decide) Φ
theorem over_unit (Φ : Unit → sProp 𝕄) : bigSep Finset.univ Φ = Φ () := by
  rw [show (Finset.univ : Finset Unit) = {()} from rfl, bigSep_singleton]
theorem over_sum {A B : Type} [Fintype A] [Fintype B] (Φ : A ⊕ B → sProp 𝕄) :
    bigSep Finset.univ Φ = iprop(bigSep Finset.univ (fun a => Φ (.inl a)) ∗ bigSep Finset.univ fun b => Φ (.inr b)) := bigSep_univ_sum Φ
theorem over_OI (Φ : OI → sProp 𝕄) :
    bigSep Finset.univ Φ = iprop(Φ (.inl ()) ∗ (bigSep Finset.univ fun x : X => Φ (.inr (false, x))) ∗ bigSep Finset.univ fun x : X => Φ (.inr (true, x))) := by
  rw [over_sum, over_unit, bigSep_univ_prod (fun b : Bool × X => Φ (.inr b)), over_bool]
theorem over_CI (Φ : CI → sProp 𝕄) :
    bigSep Finset.univ Φ = iprop(Φ kB ∗ Φ kW ∗ (bigSep Finset.univ fun x : X => Φ (kX false x)) ∗ bigSep Finset.univ fun x : X => Φ (kX true x)) := by
  rw [over_sum, over_unit, over_OI]
theorem over_X (Φ : X → sProp 𝕄) :
    bigSep Finset.univ Φ = iprop((bigSep Finset.univ fun p : Fin 8 × Fin 2 => Φ (false, p)) ∗ bigSep Finset.univ fun p : Fin 8 × Fin 2 => Φ (true, p)) := by
  rw [bigSep_univ_prod, over_bool]

/-! ## A gather buffer and its half slots -/

/-- A whole gather buffer, at some contents. -/
def agAll (d : Bool) (c : Dev nD) : sProp 𝕄 :=
  iprop(∃ f : Buf (Elt F) ((agM d).view.loc (c : Thread nD τ)), ((agM d).view.loc (c : Thread nD τ) ↦[Finset.univ]{fullShare} f))

/-- The elements of half a slot, in their buffer. -/
def slotIn (d : Bool) (c : Dev nD) (p : Fin 9 × Fin 2) : Finset (Idx ((agM d).view.loc (c : Thread nD τ))) := (slotSet p.1 p.2).map (agM d).view.emb

theorem slot_disj (d : Bool) (c : Dev nD) : ∀ p ∈ (Finset.univ : Finset (Fin 9 × Fin 2)), ∀ q ∈ (Finset.univ : Finset (Fin 9 × Fin 2)), p ≠ q →
    Disjoint (slotIn d c p) (slotIn d c q) :=
  fun p _ q _ h => (Finset.disjoint_map _).mpr (slotSet_disjoint h)
theorem slot_all (d : Bool) (c : Dev nD) : (Finset.univ : Finset (Fin 9 × Fin 2)).biUnion (slotIn d c) = Finset.univ := by
  refine Finset.eq_univ_iff_forall.mpr fun j => ?_
  have hj : j ∈ (agM d).view.set := by rw [agM_univ]; exact Finset.mem_univ _
  obtain ⟨a, -, rfl⟩ := Finset.mem_map.mp hj
  have ha : a ∈ (Finset.univ.biUnion fun p : Fin 9 × Fin 2 => slotSet p.1 p.2) := by rw [slotSet_cover]; exact Finset.mem_univ _
  obtain ⟨p, -, hp⟩ := Finset.mem_biUnion.mp ha
  exact Finset.mem_biUnion.mpr ⟨p, Finset.mem_univ _, Finset.mem_map_of_mem _ hp⟩

/-- A half slot, at some contents. -/
def slotSome (d : Bool) (s : Fin 9) (i : Fin 2) (c : Dev nD) : sProp 𝕄 := iprop(∃ f, slotPts (F := F) d s i c fullShare f)

theorem slot_some (d : Bool) (s : Fin 9) (i : Fin 2) (c : Dev nD) (f) : slotPts (F := F) d s i c fullShare f ⊢ slotSome (F := F) d s i c := by
  unfold slotSome
  iintro H; iexists f; iexact H

theorem ag_slots (d : Bool) (c : Dev nD) : agAll (F := F) d c ⊢ bigSep Finset.univ fun p : Fin 9 × Fin 2 => slotSome (F := F) d p.1 p.2 c := by
  unfold agAll
  iintro ⟨%f, H⟩
  iapply (show ((agM d).view.loc (c : Thread nD τ) ↦[Finset.univ]{fullShare} f : sProp 𝕄) ⊢ _ from by
    rw [← slot_all d c, pointsTo_biUnion _ _ (slot_disj d c)]
    exact bigSep_mono fun p _ => (Entails.of_eq (slotPts_eq d p.1 p.2 c fullShare f).symm).trans (slot_some d p.1 p.2 c f))
  iexact H
/-- Parts of a buffer, each at some contents, make the whole at some contents. -/
theorem join_any {ℓ : Loc nD τ sig} {A : Type} [Fintype A] [DecidableEq A] (S : A → Finset (Idx ℓ)) (f₀ : Buf (Elt F) ℓ)
    (h : ∀ p ∈ (Finset.univ : Finset A), ∀ q ∈ (Finset.univ : Finset A), p ≠ q → Disjoint (S p) (S q)) (hu : Finset.univ.biUnion S = Finset.univ) :
    (bigSep Finset.univ fun p => iprop(∃ f : Buf (Elt F) ℓ, ℓ ↦[S p]{fullShare} f)) ⊢ (iprop(∃ f : Buf (Elt F) ℓ, ℓ ↦[Finset.univ]{fullShare} f) : sProp 𝕄) := by
  haveI : ∀ _ : A, Nonempty (Buf (Elt F) ℓ) := fun _ => ⟨f₀⟩
  refine (BI.bigSep_exists_pi Finset.univ (fun (p : A) f => (ℓ ↦[S p]{fullShare} f : sProp 𝕄))).trans ?_
  have hj := fun f : A → Buf (Elt F) ℓ => pointsTo_biUnion_join (Ix := Unit) (Name := ℕ) (U := UU) (Lvl := ℕ) (q := fullShare) Finset.univ S f f₀ h
  rw [hu] at hj
  iintro ⟨%f, H⟩
  ihave H := (hj f) $$ H
  icases H with ⟨%g, -, H⟩
  iexists g; iexact H

theorem slotSome_eq (d : Bool) (s : Fin 9) (i : Fin 2) (c : Dev nD) :
    slotSome (F := F) d s i c = iprop(∃ f : Buf (Elt F) ((agM d).view.loc (c : Thread nD τ)), (agM d).view.loc (c : Thread nD τ) ↦[slotIn d c (s, i)]{fullShare} f) := by
  unfold slotSome
  exact congrArg (fun Φ : Buf (Elt F) ((agM d).view.loc (c : Thread nD τ)) → sProp 𝕄 => iprop(∃ f, Φ f)) (funext fun f => slotPts_eq d s i c fullShare f)

include m ρ in
theorem slots_ag (d : Bool) (c : Dev nD) : (bigSep Finset.univ fun p : Fin 9 × Fin 2 => slotSome (F := F) d p.1 p.2 c) ⊢ agAll (F := F) d c :=
  (Entails.of_eq (bigSep_congr fun p _ => slotSome_eq d p.1 p.2 c)).trans
    (join_any (slotIn d c) (agF m ρ d c) (slot_disj d c) (slot_all d c))

/-- The half slots that no transfer lands in. -/
def spare (d : Bool) (c : Dev nD) : sProp 𝕄 :=
  iprop((bigSep Finset.univ fun i : Fin 2 => slotSome (F := F) d 0 i c)
    ∗ bigSep Finset.univ fun p : Fin 8 × Fin 2 => if isUsed (d, p) then iprop(emp) else slotFree (F := F) (d, p) c)

theorem slots_eq (d : Bool) (c : Dev nD) : (bigSep Finset.univ fun p : Fin 9 × Fin 2 => slotSome (F := F) d p.1 p.2 c)
    = iprop((bigSep Finset.univ fun i : Fin 2 => slotSome (F := F) d 0 i c) ∗ bigSep Finset.univ fun p : Fin 8 × Fin 2 => slotFree (F := F) (d, p) c) := by
  rw [bigSep_univ_prod, fin_succ, bigSep_univ_prod (fun p : Fin 8 × Fin 2 => slotFree (F := F) (d, p) c)]
  rfl

theorem ag_split (d : Bool) (c : Dev nD) : agAll (F := F) d c ⊢ iprop(spare (F := F) d c ∗ barPay (F := F) d c) := by
  refine (ag_slots d c).trans ?_
  rw [slots_eq]
  unfold spare barPay
  iintro ⟨H0, H⟩
  ihave H := (show (bigSep Finset.univ fun p : Fin 8 × Fin 2 => slotFree (F := F) (d, p) c) ⊢ iprop((bigSep Finset.univ fun p : Fin 8 × Fin 2 => if isUsed (d, p) then iprop(emp) else slotFree (F := F) (d, p) c)
      ∗ bigSep Finset.univ fun p : Fin 8 × Fin 2 => if isUsed (d, p) then slotFree (F := F) (d, p) c else iprop(emp)) from by
    rw [← bigSep_sep']
    exact bigSep_mono fun p _ => by
      cases isUsed (d, p)
      · show slotFree (F := F) (d, p) c ⊢ iprop(slotFree (F := F) (d, p) c ∗ emp)
        iintro H; isplitl [H]; · iexact H
        iempintro
      · show slotFree (F := F) (d, p) c ⊢ iprop(emp ∗ slotFree (F := F) (d, p) c)
        iintro H; isplitr; · iempintro
        iexact H) $$ H
  icases H with ⟨Hs, Hb⟩
  isplitl [H0 Hs]
  · isplitl [H0]; · iexact H0
    iexact Hs
  iexact Hb
include m ρ in
theorem ag_join (d : Bool) (c : Dev nD) : iprop(spare (F := F) d c ∗ barPay (F := F) d c) ⊢ agAll (F := F) d c := by
  refine BIBase.Entails.trans ?_ (slots_ag m ρ d c)
  rw [slots_eq]
  unfold spare barPay
  iintro ⟨⟨H0, Hs⟩, Hb⟩
  isplitl [H0]; · iexact H0
  iapply (show iprop((bigSep Finset.univ fun p : Fin 8 × Fin 2 => if isUsed (d, p) then iprop(emp) else slotFree (F := F) (d, p) c)
      ∗ bigSep Finset.univ fun p : Fin 8 × Fin 2 => if isUsed (d, p) then slotFree (F := F) (d, p) c else iprop(emp)) ⊢ _ from by
    rw [← bigSep_sep']
    exact bigSep_mono fun p _ => by
      cases isUsed (d, p)
      · show iprop(slotFree (F := F) (d, p) c ∗ emp) ⊢ slotFree (F := F) (d, p) c
        iintro ⟨H, -⟩; iexact H
      · show iprop(emp ∗ slotFree (F := F) (d, p) c) ⊢ slotFree (F := F) (d, p) c
        iintro ⟨-, H⟩; iexact H)
  isplitl [Hs]; · iexact Hs
  iexact Hb

/-! ## What the transfers leave -/

/-- What a direction's sends gave back and its receives kept: the rows of `x` the first sends read, and every landing place. -/
theorem kept_join (d : Bool) (c : Dev nD) :
    iprop((bigSep Finset.univ fun p : Fin 8 × Fin 2 => srcPts m ρ (d, p) c)
        ∗ bigSep Finset.univ fun p : Fin 8 × Fin 2 => if isUsed (d, p) then kept m ρ c (d, p) else iprop(emp))
      ⊢ iprop((bigSep Finset.univ fun i : Fin 2 => halfPts i c (qX d) (xstg m ρ c)) ∗ barPay (F := F) d c) := by
  unfold barPay
  rw [bigSep_univ_prod (fun p : Fin 8 × Fin 2 => srcPts m ρ (d, p) c), fin_succ (fun h : Fin 8 => bigSep Finset.univ fun i : Fin 2 => srcPts m ρ (d, h, i) c),
    bigSep_univ_prod (fun p : Fin 8 × Fin 2 => if isUsed (d, p) then kept m ρ c (d, p) else iprop(emp)),
    fin_last (fun h : Fin 8 => bigSep Finset.univ fun i : Fin 2 => if isUsed (d, h, i) then kept m ρ c (d, h, i) else iprop(emp)),
    bigSep_univ_prod (fun p : Fin 8 × Fin 2 => if isUsed (d, p) then slotFree (F := F) (d, p) c else iprop(emp)),
    fin_last (fun h : Fin 8 => bigSep Finset.univ fun i : Fin 2 => if isUsed (d, h, i) then slotFree (F := F) (d, h, i) c else iprop(emp))]
  have hl : ∀ i : Fin 2, (if isUsed (d, Fin.last 7, i) then kept m ρ c (d, Fin.last 7, i) else iprop(emp))
      ⊢ (if isUsed (d, Fin.last 7, i) then slotFree (F := F) (d, Fin.last 7, i) c else iprop(emp) : sProp 𝕄) := by
    intro i
    cases isUsed (d, Fin.last 7, i)
    · exact BI.Entails.refl _
    · show kept m ρ c (d, Fin.last 7, i) ⊢ slotFree (F := F) (d, Fin.last 7, i) c
      unfold kept kq slotFree
      rw [if_pos (show ((d, Fin.last 7, i) : X).2.1.val = 7 from rfl)]
      iintro H; iexists _; iexact H
  have hL : (bigSep Finset.univ fun i : Fin 2 => if isUsed (d, Fin.last 7, i) then kept m ρ c (d, Fin.last 7, i) else iprop(emp))
      ⊢ (bigSep Finset.univ fun i : Fin 2 => if isUsed (d, Fin.last 7, i) then slotFree (F := F) (d, Fin.last 7, i) c else iprop(emp) : sProp 𝕄) :=
    bigSep_mono fun i _ => hl i
  have hk : ∀ (k : Fin 7) (i : Fin 2), iprop(srcPts m ρ (d, k.succ, i) c ∗ if isUsed (d, k.castSucc, i) then kept m ρ c (d, k.castSucc, i) else iprop(emp))
      ⊢ (if isUsed (d, k.castSucc, i) then slotFree (F := F) (d, k.castSucc, i) c else iprop(emp) : sProp 𝕄) := by
    intro k i
    have hx : isUsed (d, k.castSucc, i) = true := by clear hl hL; revert d k i; decide
    rw [if_pos hx, if_pos hx, ← src_next]
    unfold kept kq slotFree slotPts
    rw [if_neg (show ¬ ((d, k.castSucc, i) : X).2.1.val = 7 from by show ¬ k.val = 7; omega)]
    iintro ⟨Hl, Hr⟩
    iexists (agF m ρ d c)
    iapply (pointsTo_share (PosShare.mem_left_op_right fullShare)).2
    isplitl [Hl]; · iexact Hl
    iexact Hr
  have hK : iprop((bigSep Finset.univ fun k : Fin 7 => bigSep Finset.univ fun i : Fin 2 => srcPts m ρ (d, k.succ, i) c)
      ∗ bigSep Finset.univ fun k : Fin 7 => bigSep Finset.univ fun i : Fin 2 => if isUsed (d, k.castSucc, i) then kept m ρ c (d, k.castSucc, i) else iprop(emp))
      ⊢ (bigSep Finset.univ fun k : Fin 7 => bigSep Finset.univ fun i : Fin 2 => if isUsed (d, k.castSucc, i) then slotFree (F := F) (d, k.castSucc, i) c else iprop(emp) : sProp 𝕄) := by
    rw [← bigSep_sep']
    refine bigSep_mono fun k _ => ?_
    rw [← bigSep_sep']
    exact bigSep_mono fun i _ => hk k i
  iintro ⟨⟨H0, Hs⟩, HL, Hr⟩
  isplitl [H0]; · iexact H0
  isplitl [HL]; · iapply hL; iexact HL
  iapply hK
  isplitl [Hs]; · iexact Hs
  iexact Hr

/-! ## The rows of `x` -/

/-- The staged rows of `x`, at a share. -/
def xPts (c : Dev nD) (q : PosShare TreeShare) : sProp 𝕄 :=
  (xM : Memref sig .tc .vmem S256x4096 .fp8e4m3).view.loc (c : Thread nD τ) ↦[Finset.univ]{q} (xstg m ρ c)

/-- The rows of half `i`. -/
def halfSet (i : Fin 2) : Finset S256x4096.Idx := (Rect.unit (s := S256x4096) ![128 * i.val, 0] S128x4096.size (inb_half i)).set

theorem half_set (i : Fin 2) : (halfM i).view.set = halfSet i := by
  unfold halfM halfSet
  exact (View.set_slice _ _).trans (Finset.map_refl)

theorem mem_halfSet (i : Fin 2) (j : S256x4096.Idx) : j ∈ halfSet i ↔ (j (0 : Fin 2)).val / 128 = i.val := by
  unfold halfSet
  rw [Rect.mem_set_unit]
  have h1 : (j (1 : Fin 2)).val < 4096 := (j (1 : Fin 2)).isLt
  constructor
  · intro h
    have a0 : 128 * i.val ≤ (j (0 : Fin 2)).val ∧ (j (0 : Fin 2)).val < 128 * i.val + 128 := h (0 : Fin 2)
    omega
  · intro h a
    fin_cases a
    · show 128 * i.val ≤ (j (0 : Fin 2)).val ∧ (j (0 : Fin 2)).val < 128 * i.val + 128
      omega
    · show 0 ≤ (j (1 : Fin 2)).val ∧ (j (1 : Fin 2)).val < 0 + 4096
      omega

theorem x_halves (c : Dev nD) (q : PosShare TreeShare) :
    xPts m ρ c q ⊣⊢ iprop(halfPts 0 c q (xstg m ρ c) ∗ halfPts 1 c q (xstg m ρ c)) := by
  have hd : Disjoint (halfSet 0) (halfSet 1) := by
    rw [Finset.disjoint_left]; intro j h h'
    rw [mem_halfSet] at h h'
    exact absurd (h.symm.trans h') (by decide)
  have hu : halfSet 0 ∪ halfSet 1 = Finset.univ := by
    ext j
    rw [Finset.mem_union, mem_halfSet, mem_halfSet]
    have h0 : (j (0 : Fin 2)).val < 256 := (j (0 : Fin 2)).isLt
    simp only [Finset.mem_univ, iff_true]
    show _ = 0 ∨ _ = 1
    omega
  have e : ∀ i, halfPts i c q (xstg m ρ c) = ((xM : Memref sig .tc .vmem S256x4096 .fp8e4m3).view.loc (c : Thread nD τ) ↦[halfSet i]{q} (xstg m ρ c) : sProp 𝕄) := by
    intro i; rw [← half_set]; rfl
  rw [e, e]
  unfold xPts
  rw [← hu]
  exact pointsTo_union hd

/-- The staged rows, shared out: one share stays, the others go with the first sends. -/
theorem x_shares (c : Dev nD) : xPts m ρ c fullShare ⊣⊢ iprop(xPts m ρ c fullShare.left ∗ (bigSep Finset.univ fun i : Fin 2 => halfPts i c (qX false) (xstg m ρ c))
    ∗ bigSep Finset.univ fun i : Fin 2 => halfPts i c (qX true) (xstg m ρ c)) := by
  rw [bigSep_univ_two, bigSep_univ_two]
  have h1 : xPts m ρ c fullShare ⊣⊢ iprop(xPts m ρ c fullShare.left ∗ xPts m ρ c fullShare.right) := pointsTo_share (PosShare.mem_left_op_right fullShare)
  have h2 : xPts m ρ c fullShare.right ⊣⊢ iprop(xPts m ρ c (qX false) ∗ xPts m ρ c (qX true)) := pointsTo_share (PosShare.mem_left_op_right fullShare.right)
  constructor
  · refine h1.1.trans (sep_mono_right (h2.1.trans ?_))
    iintro ⟨H, H'⟩
    isplitl [H]; · iapply (x_halves m ρ c (qX false)).1; iexact H
    iapply (x_halves m ρ c (qX true)).1; iexact H'
  · iintro ⟨H0, H, H'⟩
    iapply h1.2
    isplitl [H0]; · iexact H0
    iapply h2.2
    isplitl [H]; · iapply (x_halves m ρ c (qX false)).2; iexact H
    iapply (x_halves m ρ c (qX true)).2; iexact H'

end Cert.KernelIdeal.Proof
-- ==== Proof.Start.lean ====
module

public import proofs.«01_k».proof.Proof.Scratch

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## What a device starts with -/

/-- Its place at each of its own cells; -/
def ats (c : Dev nD) : sProp 𝕄 := bigSep Finset.univ fun k : CI => atPos ER (cell c k) 0 ∅ 0
/-- the tokens of the duties it pays; -/
def payToks (c : Dev nD) : sProp 𝕄 :=
  iprop(dutyTok ER (cell (nb true c) kB) 0 false ∗ dutyTok ER (cell (nb false c) kB) 0 true ∗ dutyTok ER (cell c kW) 0 false
    ∗ (bigSep Finset.univ fun x : X => dutyTok ER (cell c (kX false x)) 0 false)
    ∗ bigSep Finset.univ fun x : X => dutyTok ER (cell (nb x.1 c) (kX true x)) 0 false)
/-- and the credits others owe it. -/
def creds (c : Dev nD) : sProp 𝕄 :=
  iprop(cred (tallyAt (cell c kB) () 2) ∗ bigSep Finset.univ fun x : X => if isUsed x then cred (tallyAt (cell c (kX true x)) () N) else iprop(emp))

theorem sends_start (c : Dev nD) :
    iprop((bigSep Finset.univ fun x : X => (atPos ER (cell c (kX false x)) 0 ∅ 0 : sProp 𝕄))
        ∗ (bigSep Finset.univ fun x : X => dutyTok ER (cell c (kX false x)) 0 false)
        ∗ (bigSep Finset.univ fun x : X => dutyTok ER (cell (nb x.1 c) (kX true x)) 0 false)
        ∗ barPay (F := F) false (nb false c) ∗ barPay (F := F) true (nb true c)) ⊢ Sends m ρ c 0 := by
  have hb : iprop(barPay (F := F) false (nb false c) ∗ barPay (F := F) true (nb true c))
      = bigSep Finset.univ fun x : X => if isUsed x then slotFree (F := F) x (nb x.1 c) else iprop(emp) := by
    rw [over_X]; rfl
  rw [hb, ← bigSep_sep', ← bigSep_sep', ← bigSep_sep']
  unfold Sends
  refine bigSep_mono fun x _ => ?_
  unfold phase sB SendReady
  rw [if_neg (Nat.not_lt_zero _)]
  by_cases h : isUsed x = true
  · rw [if_pos h, if_pos h]
    show (_ : sProp 𝕄) ⊢ _
    iintro ⟨Hat, Hs, Hr, Hf⟩
    isplitl [Hr]; · iexact Hr
    isplitl [Hs]; · iexact Hs
    isplitl [Hat]; · iexact Hat
    iexact Hf
  · rw [if_neg h, if_neg h]
    show (_ : sProp 𝕄) ⊢ _
    iintro ⟨Hat, -⟩
    iexact Hat

theorem recvs_start (c : Dev nD) :
    iprop((bigSep Finset.univ fun x : X => (atPos ER (cell c (kX true x)) 0 ∅ 0 : sProp 𝕄))
        ∗ bigSep Finset.univ fun x : X => if isUsed x then cred (tallyAt (cell c (kX true x)) () N) else iprop(emp)) ⊢ Recvs m ρ c 0 := by
  rw [← bigSep_sep']
  unfold Recvs
  refine bigSep_mono fun x _ => ?_
  unfold phase rB
  rw [if_neg (Nat.not_lt_zero _)]
  by_cases h : isUsed x = true
  · rw [if_pos h, if_pos h]
    show (_ : sProp 𝕄) ⊢ _
    iintro ⟨Hat, Hc⟩
    isplitl [Hc]; · iexact Hc
    iexact Hat
  · rw [if_neg h, if_neg h]
    show (_ : sProp 𝕄) ⊢ _
    iintro ⟨Hat, -⟩
    iexact Hat

/-! ## The barrier -/

theorem bar_mem (c : Dev nD) (d : Bool) : d ∈ (Rd (F := F) m ρ).duties (cell c kB) 0 := by rw [Rd_duties]; exact Finset.mem_univ _
theorem bar_expect (c : Dev nD) : (Rd (F := F) m ρ).expect (cell c kB) 0 = 2 := by rw [Rd_expect]; rfl
theorem bar_rest (c : Dev nD) :
    bigSep ((Rd (F := F) m ρ).duties (cell c kB) 0 \ ∅) (fun d => (Rd (F := F) m ρ).payload (cell c kB) 0 d)
      = iprop(barPay (F := F) false (nb false c) ∗ barPay (F := F) true (nb true c)) := by
  rw [Rd_rest]; exact over_bool _

theorem bar_step (c : Dev nD) (W : Waits sig Unit) (Q : PUnit → sProp 𝕄) :
    iprop(recs m ρ K ∗ levAts L lv ∗ owes (c : Thread nD τ) (O₀ c) W ∗ dutyTok ER (cell (nb true c) kB) 0 false ∗ dutyTok ER (cell (nb false c) kB) 0 true
        ∗ cred (tallyAt (cell c kB) () 2) ∗ atPos ER (cell c kB) 0 ∅ 0 ∗ barPay (F := F) false c ∗ barPay (F := F) true c
        ∗ ((Owes c 0 ∗ semVal (cell c kB) 0 ∗ barPay (F := F) false (nb false c) ∗ barPay (F := F) true (nb true c)) -∗ Q ⟨⟩))
      ⊢ Wp c (barProg c) Q := by
  have hp1 : barPay (F := F) false c ⊢ (Rd (F := F) m ρ).payload (cell (nb true c) kB) 0 false := by
    rw [Rd_payload]
    show _ ⊢ barPay (F := F) false (nb false (nb true c))
    rw [show nb false (nb true c) = c from nb_nb false c]
  have hp2 : barPay (F := F) true c ⊢ (Rd (F := F) m ρ).payload (cell (nb false c) kB) 0 true := by
    rw [Rd_payload]
    show _ ⊢ barPay (F := F) true (nb true (nb false c))
    rw [show nb true (nb false c) = c from nb_nb true c]
  unfold barProg
  rw [dev1_eq, dev2_eq]
  simp only [semSignalWord, semWaitWord, Prog.lift, Prog.bind_op, Prog.bind_ret]
  unfold Owes
  iintro ⟨#Hrec, #Hlev, HO, Ht1, Ht2, Hc, Hat, Hb1, Hb2, Hk⟩
  ihave Hi := (recs_at m ρ K c kB) $$ Hrec
  icases Hi with ⟨#HiB, -⟩
  ihave Hi := (recs_at m ρ K (nb true c) kB) $$ Hrec
  icases Hi with ⟨#Hi1, #Hr1⟩
  ihave Hi := (recs_at m ρ K (nb false c) kB) $$ Hrec
  icases Hi with ⟨#Hi2, #Hr2⟩
  iapply (Rounds.wp_signal 𝒱₀ ER (Rd m ρ) (c : Thread nD τ) none (dst := (nb true c : Thread nD τ)) (κ := K (nb true c, kB))
      (d := false) (bar_mem m ρ (nb true c) false) ((Rd_amount m ρ (nb true c) kB false).trans (by decide)) () (O₁ c) rfl) $$ [HO Ht1 Hb1]
  · isplitr; · iexact Hi1
    isplitl [HO]; · iexact HO
    isplitl [Ht1]; · iexact Ht1
    isplitl [Hb1]; · iapply hp1; iexact Hb1
    iexact Hr1
  iintro HO
  unfold O₁
  iapply (Rounds.wp_signal 𝒱₀ ER (Rd m ρ) (c : Thread nD τ) none (dst := (nb false c : Thread nD τ)) (κ := K (nb false c, kB))
      (d := true) (bar_mem m ρ (nb false c) true) ((Rd_amount m ρ (nb false c) kB true).trans (by decide)) () (owe c 0) rfl) $$ [HO Ht2 Hb2]
  · isplitr; · iexact Hi2
    isplitl [HO]; · iexact HO
    isplitl [Ht2]; · iexact Ht2
    isplitl [Hb2]; · iapply hp2; iexact Hb2
    iexact Hr2
  iintro HO
  iapply (Rounds.wp_wait_rest_token 𝒱₀ ER (Rd m ρ) (c : Thread nD τ) none (κ := K (c, kB))
      (wpE_semWait_eq 𝒱₀ (c : Thread nD τ) none Set.univ) (Set.mem_univ _) () (O := owe c 0) (W := W) (R := 0) (m := 0) (T := ∅)
      (by rw [bar_expect]; decide)) $$ [Hc HO Hat]
  · isplitr; · iexact HiB
    isplitl [Hc]; · iexact Hc
    isplitl [HO]; · iexact HO
    isplitr
    · iapply (mayWait c (csem kB) 1 (by rw [dec_csem]; exact le_refl _) (owe c 0) (above_owe c 1 0 (by decide))); iexact Hlev
    iexact Hat
  iintro ⟨HO, Hat, -, Hpay⟩
  ihave Hp := (Entails.of_eq (bar_rest m ρ c)) $$ Hpay
  imod (Rounds.cell_close ER (Rd m ρ) (Set.mem_univ (K (c, kB))) (fun h => h) (R := 0 + 1) (Rd_later m ρ (cell c kB))) $$ [Hat] with Hz
  · isplitr; · iexact HiB
    iexact Hat
  rw [wp_ret]; imodintro
  iapply Hk
  isplitl [HO]; · iexists (insert (csem kB, ()) W); iexact HO
  isplitl [Hz]; · iexact Hz
  iexact Hp

/-! ## The first sends, and the weights -/

theorem src_first (d : Bool) (i : Fin 2) (c : Dev nD) : halfPts i c (qX d) (xstg m ρ c) = srcPts m ρ (d, 0, i) c := rfl

theorem first_step (c : Dev nD) (Q : PUnit → sProp 𝕄) :
    iprop(recs m ρ K ∗ (bigSep Finset.univ fun i : Fin 2 => halfPts i c (qX false) (xstg m ρ c)) ∗ (bigSep Finset.univ fun i : Fin 2 => halfPts i c (qX true) (xstg m ρ c))
        ∗ Owes c 0 ∗ Sends m ρ c 0 ∗ ((Owes c 4 ∗ Sends m ρ c 4) -∗ Q ⟨⟩))
      ⊢ Wp c (firstSends c) Q := by
  rw [bigSep_univ_two, bigSep_univ_two, src_first, src_first, src_first, src_first]
  unfold firstSends Wp
  simp only [wp_bind]
  iintro ⟨#Hrec, ⟨Hr0, Hr1⟩, ⟨Hl0, Hl1⟩, HO, HS, Hk⟩
  iapply (sendIf_step m ρ K c (false, 0, 0))
  isplitr; · iexact Hrec
  isplitl [Hr0]; · iexact Hr0
  isplitl [HO]; · iexact HO
  isplitl [HS]; · iexact HS
  iintro ⟨HO, HS⟩
  iapply (sendIf_step m ρ K c (true, 0, 0))
  isplitr; · iexact Hrec
  isplitl [Hl0]; · iexact Hl0
  isplitl [HO]; · iexact HO
  isplitl [HS]; · iexact HS
  iintro ⟨HO, HS⟩
  iapply (sendIf_step m ρ K c (false, 0, 1))
  isplitr; · iexact Hrec
  isplitl [Hr1]; · iexact Hr1
  isplitl [HO]; · iexact HO
  isplitl [HS]; · iexact HS
  iintro ⟨HO, HS⟩
  iapply (sendIf_step m ρ K c (true, 0, 1))
  isplitr; · iexact Hrec
  isplitl [Hl1]; · iexact Hl1
  isplitl [HO]; · iexact HO
  isplitl [HS]; · iexact HS
  iintro ⟨HO, HS⟩
  iapply Hk
  isplitl [HO]; · iexact HO
  iexact HS

/-- The weights' array, and the buffer they are fetched into. -/
def wAPts (c : Dev nD) : sProp 𝕄 :=
  (wA : Memref sig .tc .hbm S4096x512 .f32).view.loc (c : Thread nD τ) ↦[(wA : Memref sig .tc .hbm S4096x512 .f32).view.set]{fullShare} m ((c : Thread nD τ).loc main_arg1)
def wMPts (c : Dev nD) (f : Buf (Elt F) ((wM : Memref sig .tc .vmem S4096x512 .f32).view.loc (c : Thread nD τ))) : sProp 𝕄 :=
  (wM : Memref sig .tc .vmem S4096x512 .f32).view.loc (c : Thread nD τ) ↦[(wM : Memref sig .tc .vmem S4096x512 .f32).view.set]{fullShare} f
/-- The weights, as fetched. -/
def wV (c : Dev nD) : Vec F S4096x512 .f32 := (m ((c : Thread nD τ).loc main_arg1) : Vec F S4096x512 .f32)

theorem w_mem (c : Dev nD) : false ∈ (Rd (F := F) m ρ).duties (cell c kW) 0 := by rw [Rd_duties]; exact Finset.mem_singleton_self _
theorem w_expect (c : Dev nD) : (Rd (F := F) m ρ).expect (cell c kW) 0 = Nw := by
  rw [Rd_expect]; show ({false} : Finset Bool).card * Nw = Nw; rw [Finset.card_singleton, Nat.one_mul]
theorem w_rest (c : Dev nD) :
    bigSep ((Rd (F := F) m ρ).duties (cell c kW) 0 \ ∅) (fun d => (Rd (F := F) m ρ).payload (cell c kW) 0 d) = iprop(wMPts c (wV m c) ∗ wAPts m c) := by
  rw [Rd_rest, show dutyOf kW = {false} from rfl, bigSep_singleton]; rfl

theorem w_landed (c : Dev nD) (fd : Buf (Elt F) ((wM : Memref sig .tc .vmem S4096x512 .f32).view.loc (c : Thread nD τ))) :
    wMPts c ((wM : Memref sig .tc .vmem S4096x512 .f32).view.write (Elt F) fd ((wA : Memref sig .tc .hbm S4096x512 .f32).view.read (Elt F) (m ((c : Thread nD τ).loc main_arg1))) Finset.univ)
      = wMPts c (wV m c) :=
  pointsTo_congr fun j hj => write_on (wM : Memref sig .tc .vmem S4096x512 .f32).view fd (wV m c) hj

theorem fetch_step (c : Dev nD) (Q : PUnit → sProp 𝕄) :
    iprop(recs m ρ K ∗ wAPts m c ∗ (∃ f, wMPts (F := F) c f) ∗ dutyTok ER (cell c kW) 0 false ∗ (cred (tallyAt (cell c kW) () Nw) -∗ Q ⟨⟩))
      ⊢ Wp c fetchW Q := by
  unfold fetchW
  simp only [Prog.lift]
  iintro ⟨#Hrec, HA, ⟨%fd, HM⟩, Ht, Hk⟩
  ihave Hi := (recs_at m ρ K c kW) $$ Hrec
  icases Hi with ⟨#Hi, #Hr⟩
  unfold wAPts wMPts
  iapply (Rounds.wp_copy_pointsTo 𝒱₀ ER (Rd m ρ) (c : Thread nD τ) none (κ := K (c, kW)) (src := wA) (dst := wM) (sem := .dma wS) (r := 0) (d := false) (fd := fd)
      (q := fullShare) (fs := m ((c : Thread nD τ).loc main_arg1))
      (w_mem m ρ c) () Nw w_credit (Rd_amount m ρ c kW false)
      ((sep_mono_left (Entails.of_eq (w_landed m c fd))).trans (Entails.of_eq (Rd_payload m ρ c kW false).symm))) $$ [HA HM Ht]
  · isplitr; · iexact Hi
    isplitl [HA]; · iexact HA
    isplitl [HM]; · iexact HM
    isplitl [Ht]; · iexact Ht
    iexact Hr
  iintro Hc
  rw [wp_ret]; imodintro
  iapply Hk; iexact Hc

theorem await_step (c : Dev nD) (n : ℕ) (Q : PUnit → sProp 𝕄) :
    iprop(recs m ρ K ∗ levAts L lv ∗ Owes c n ∗ cred (tallyAt (cell c kW) () Nw) ∗ atPos ER (cell c kW) 0 ∅ 0
        ∗ ((Owes c n ∗ semVal (cell c kW) 0 ∗ wMPts c (wV m c) ∗ wAPts m c) -∗ Q ⟨⟩))
      ⊢ Wp c awaitW Q := by
  unfold awaitW Owes
  simp only [Prog.lift]
  iintro ⟨#Hrec, #Hlev, ⟨%W, HO⟩, Hc, Hat, Hk⟩
  ihave Hi := (recs_at m ρ K c kW) $$ Hrec
  icases Hi with ⟨#Hi, -⟩
  iapply (Rounds.wp_wait_rest_token 𝒱₀ ER (Rd m ρ) (c : Thread nD τ) none (κ := K (c, kW))
      (wpE_waitDma2_eq 𝒱₀ (c : Thread nD τ) none Set.univ) (Set.mem_univ _) () (O := owe c n) (W := W) (R := 0) (m := 0) (T := ∅)
      ((Nat.zero_add _).trans (w_credit.trans (w_expect m ρ c).symm))) $$ [Hc HO Hat]
  · isplitr; · iexact Hi
    isplitl [Hc]; · rw [w_credit]; iexact Hc
    isplitl [HO]; · iexact HO
    isplitr
    · iapply (mayWait c (csem kW) 0 (by rw [dec_csem]; exact le_refl _) (owe c n) (above_owe c 0 n (by omega))); iexact Hlev
    iexact Hat
  iintro ⟨HO, Hat, -, Hpay⟩
  ihave Hp := (Entails.of_eq (w_rest m ρ c)) $$ Hpay
  imod (Rounds.cell_close ER (Rd m ρ) (Set.mem_univ (K (c, kW))) (fun h => h) (R := 0 + 1) (Rd_later m ρ (cell c kW))) $$ [Hat] with Hz
  · isplitr; · iexact Hi
    iexact Hat
  rw [wp_ret]; imodintro
  iapply Hk
  isplitl [HO]; · iexists (insert (csem kW, ()) W); iexact HO
  isplitl [Hz]; · iexact Hz
  iexact Hp

end Cert.KernelIdeal.Proof
-- ==== Proof.Body.lean ====
module

public import proofs.«01_k».proof.Proof.Start

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## What the kernel computes -/

/-- The two scales, as staged. -/
def sxV (c : Dev nD) : Vec F S1 .f32 := (win0_1.blk (0 : Fin 1)).view.read (Elt F) ((s₀ m ρ).mem ((c : Thread nD τ).loc main_arg2))
def swV (c : Dev nD) : Vec F S1 .f32 := (win0_2.blk (0 : Fin 1)).view.read (Elt F) ((s₀ m ρ).mem ((c : Thread nD τ).loc main_arg3))
def sxE (c : Dev nD) : F .f32 := (sxM.access r1 : View sig .tc _ _ _).read (Elt F) (sxV m ρ c) (Shape.Idx.first (numel1_S1.symm ▸ Nat.one_pos))
def swE (c : Dev nD) : F .f32 := (swM.access r1 : View sig .tc _ _ _).read (Elt F) (swV m ρ c) (Shape.Idx.first (numel1_S1.symm ▸ Nat.one_pos))

/-- Whose rows of `x` a row of the result is made of. -/
def blkOf (j : S4096x512.Idx) : Dev nD := ⟨(j (0 : Fin 2)).val / 256, by have h : (j (0 : Fin 2)).val < 4096 := (j (0 : Fin 2)).isLt; show _ < 16; omega⟩

/-- Device `c`'s result: its own rows, the rows furthest round the ring (which come in two halves), and the others. -/
def outT (c : Dev nD) : Vec F S4096x512 .f32 := fun j =>
  if blkOf j = c then k0_pay3 (sxE m ρ c) (swE m ρ c) (wV m c) (xstg m ρ (blkOf j)) (ix2 ⟨(j (0 : Fin 2)).val % 256, Nat.mod_lt _ (by decide)⟩ (j (1 : Fin 2)))
  else if (blkOf j).val = (c.val + 8) % 16 then
    k0_pay18 (k0_pay1 (sxE m ρ c) (swE m ρ c)) (k0_pay2 (wV m c)) (liftHalf ⟨(j (0 : Fin 2)).val / 128 % 2, Nat.mod_lt _ (by decide)⟩ (xstg m ρ (blkOf j)))
      (ix2 ⟨(j (0 : Fin 2)).val % 128, Nat.mod_lt _ (by decide)⟩ (j (1 : Fin 2)))
  else k0_pay4 (k0_pay1 (sxE m ρ c) (swE m ρ c)) (k0_pay2 (wV m c)) (lift (xstg m ρ (blkOf j))) (ix2 ⟨(j (0 : Fin 2)).val % 256, Nat.mod_lt _ (by decide)⟩ (j (1 : Fin 2)))

theorem ix2_of {a b : ℕ} (y : (⟨2, ![a, b]⟩ : Shape).Idx) (p : Fin a) (q : Fin b) (hp : p.val = (y (0 : Fin 2)).val) (hq : q.val = (y (1 : Fin 2)).val) : ix2 p q = y := by
  funext k; fin_cases k
  · exact Fin.ext hp
  · exact Fin.ext hq

theorem out_own (c : Dev nD) (y : S256x512.Idx) :
    outT m ρ c ((rOwn c).idx y) = k0_pay3 (sxE m ρ c) (swE m ρ c) (wV m c) (xstg m ρ c) y := by
  have hy : (y (0 : Fin 2)).val < 256 := (y (0 : Fin 2)).isLt
  have e0 : ((rOwn c).idx y (0 : Fin 2)).val = 256 * c.val + (y (0 : Fin 2)).val := by
    show (k0_off1 c) 0 + 1 * (y (0 : Fin 2)).val = _
    rw [k0_off1_eq]; show 256 * c.val + 1 * _ = _; omega
  have e1 : ((rOwn c).idx y (1 : Fin 2)).val = (y (1 : Fin 2)).val := by
    show (k0_off1 c) 1 + 1 * (y (1 : Fin 2)).val = _
    rw [k0_off1_eq]; show 0 + 1 * _ = _; omega
  have hb : blkOf ((rOwn c).idx y) = c := Fin.ext (by show _ / 256 = _; rw [e0]; omega)
  unfold outT
  rw [if_pos hb, hb]
  exact congrArg _ (ix2_of y _ _ (by show _ % 256 = _; rw [e0]; omega) e1)

theorem out_rows (c : Dev nD) : Rows m ρ (outT m ρ c) c (k0_pay1 (sxE m ρ c) (swE m ρ c)) (k0_pay2 (wV m c)) where
  block d k hin y := by
    have hy : (y (0 : Fin 2)).val < 256 := (y (0 : Fin 2)).isLt
    have hne : orig d c (k.val + 1) ≠ c ∧ (orig d c (k.val + 1)).val ≠ (c.val + 8) % 16 := by
      have hc : c.val < 16 := c.isLt
      have hk : k.val < 7 := k.isLt
      have h : (orig d c (k.val + 1)).val ≠ c.val ∧ (orig d c (k.val + 1)).val ≠ (c.val + 8) % 16 := by
        clear hin
        cases d
        · show (c.val + 15 * (k.val + 1)) % 16 ≠ c.val ∧ (c.val + 15 * (k.val + 1)) % 16 ≠ (c.val + 8) % 16
          omega
        · show (c.val + (k.val + 1)) % 16 ≠ c.val ∧ (c.val + (k.val + 1)) % 16 ≠ (c.val + 8) % 16
          omega
      exact ⟨fun e => h.1 (congrArg Fin.val e), h.2⟩
    generalize orig d c (k.val + 1) = o at *
    set r := (Rect.unit (s := S4096x512) ![256 * o.val, 0] S256x512.size hin) with hr
    have e0 : (r.idx y (0 : Fin 2)).val = 256 * o.val + (y (0 : Fin 2)).val := by
      show 256 * o.val + 1 * (y (0 : Fin 2)).val = _; omega
    have e1 : (r.idx y (1 : Fin 2)).val = (y (1 : Fin 2)).val := by
      show 0 + 1 * (y (1 : Fin 2)).val = _; omega
    have hb : blkOf (r.idx y) = o := Fin.ext (by show _ / 256 = _; rw [e0]; omega)
    unfold outT
    rw [hb, if_neg hne.1, if_neg hne.2]
    exact congrArg _ (ix2_of y _ _ (by show _ % 256 = _; rw [e0]; omega) e1)
  half i hin y := by
    have hy : (y (0 : Fin 2)).val < 128 := (y (0 : Fin 2)).isLt
    have hi : i.val < 2 := i.isLt
    have hc : c.val < 16 := c.isLt
    set r := (Rect.unit (s := S4096x512) ![256 * ((c.val + 8) % 16) + 128 * i.val, 0] S128x512.size hin) with hr
    have e0 : (r.idx y (0 : Fin 2)).val = 256 * ((c.val + 8) % 16) + 128 * i.val + (y (0 : Fin 2)).val := by
      show 256 * ((c.val + 8) % 16) + 128 * i.val + 1 * (y (0 : Fin 2)).val = _; omega
    have e1 : (r.idx y (1 : Fin 2)).val = (y (1 : Fin 2)).val := by
      show 0 + 1 * (y (1 : Fin 2)).val = _; omega
    have hb : blkOf (r.idx y) = ⟨(c.val + 8) % 16, Nat.mod_lt _ (by decide)⟩ := Fin.ext (by show _ / 256 = (c.val + 8) % 16; rw [e0]; omega)
    have hne : ¬ (⟨(c.val + 8) % 16, Nat.mod_lt _ (by decide)⟩ : Dev nD) = c := fun e => by
      have := congrArg Fin.val e
      change (c.val + 8) % 16 = c.val at this
      omega
    have hh : (⟨(r.idx y (0 : Fin 2)).val / 128 % 2, Nat.mod_lt _ (by decide)⟩ : Fin 2) = i := Fin.ext (by show _ / 128 % 2 = _; rw [e0]; omega)
    unfold outT
    rw [hb, if_neg hne, if_pos rfl, hh]
    exact congrArg _ (ix2_of y _ _ (by show _ % 128 = _; rw [e0]; omega) e1)

/-! ## The body -/

/-- The words the scales are read from, and the result buffer. -/
def sxPts (c : Dev nD) : sProp 𝕄 := (sxM : Memref sig .tc .smem S1 .f32).view.loc (c : Thread nD τ) ↦[Finset.univ]{fullShare} (sxV m ρ c)
def swPts (c : Dev nD) : sProp 𝕄 := (swM : Memref sig .tc .smem S1 .f32).view.loc (c : Thread nD τ) ↦[Finset.univ]{fullShare} (swV m ρ c)

def Pre (c : Dev nD) : sProp 𝕄 :=
  iprop((recs m ρ K ∗ levAts L lv ∗ ats (F := F) c ∗ payToks (F := F) c ∗ creds (F := F) c) ∗ (agAll (F := F) false c ∗ agAll (F := F) true c ∗ (∃ f, wMPts (F := F) c f))
    ∗ wAPts m c ∗ (∃ W, owes (c : Thread nD τ) (O₀ c) W)
    ∗ xPts m ρ c fullShare ∗ sxPts m ρ c ∗ swPts m ρ c ∗ OutP (outT m ρ c) c (fun _ => False))
def zeros (c : Dev nD) : sProp 𝕄 :=
  iprop(semVal (cell c kB) 0 ∗ semVal (cell c kW) 0 ∗ (bigSep Finset.univ fun x : X => semVal (cell c (kX false x)) 0)
    ∗ bigSep Finset.univ fun x : X => semVal (cell c (kX true x)) 0)
def Post (c : Dev nD) : sProp 𝕄 :=
  iprop(zeros (F := F) c ∗ (agAll (F := F) false c ∗ agAll (F := F) true c ∗ (∃ f, wMPts (F := F) c f)) ∗ wAPts m c ∗ Owes c 32
    ∗ xPts m ρ c fullShare ∗ sxPts m ρ c ∗ swPts m ρ c ∗ OutP (outT m ρ c) c (fun _ => True))

/-- What the transfers leave, put together again. -/
theorem gather_back (c : Dev nD) :
    iprop((bigSep Finset.univ fun x : X => srcPts m ρ x c) ∗ (bigSep Finset.univ fun x : X => if isUsed x then kept m ρ c x else iprop(emp))
        ∗ spare (F := F) false c ∗ spare (F := F) true c ∗ xPts m ρ c fullShare.left)
      ⊢ iprop(agAll (F := F) false c ∗ agAll (F := F) true c ∗ xPts m ρ c fullShare) := by
  rw [over_X, over_X]
  iintro ⟨⟨Hs0, Hs1⟩, ⟨Hk0, Hk1⟩, Hp0, Hp1, Hx⟩
  ihave H0 := (kept_join m ρ false c) $$ [Hs0 Hk0]
  · isplitl [Hs0]; · iexact Hs0
    iexact Hk0
  ihave H1 := (kept_join m ρ true c) $$ [Hs1 Hk1]
  · isplitl [Hs1]; · iexact Hs1
    iexact Hk1
  icases H0 with ⟨Hx0, Hb0⟩
  icases H1 with ⟨Hx1, Hb1⟩
  isplitl [Hp0 Hb0]
  · iapply (ag_join m ρ false c)
    isplitl [Hp0]; · iexact Hp0
    iexact Hb0
  isplitl [Hp1 Hb1]
  · iapply (ag_join m ρ true c)
    isplitl [Hp1]; · iexact Hp1
    iexact Hb1
  iapply (x_shares m ρ c).2
  isplitl [Hx]; · iexact Hx
  isplitl [Hx0]; · iexact Hx0
  iexact Hx1

set_option maxHeartbeats 800000 in
/-- A device runs the kernel: what it is given first, what it leaves. -/
theorem body_step (c : Dev nD) (Q : PUnit → sProp 𝕄) : iprop(Pre m ρ K c ∗ (Post m ρ c -∗ Q ⟨⟩)) ⊢ Wp c bodyProg Q := by
  have hnear : ∀ j, near c 0 j → j ∈ (rOwn c).set := by
    intro j hj
    have hc : c.val < 16 := c.isLt
    have hj0 : (j (0 : Fin 2)).val / 256 < 16 := by have h : (j (0 : Fin 2)).val < 4096 := (j (0 : Fin 2)).isLt; omega
    have hb : (j (0 : Fin 2)).val / 256 = c.val := by unfold near at hj; omega
    have hm : ∀ (off : Fin 2 → ℕ) (hin : ∀ a, off a + S256x512.size a ≤ S4096x512.size a), off = ![256 * c.val, 0] → j ∈ (Rect.unit (s := S4096x512) off S256x512.size hin).set := by
      intro off hin e
      subst e
      exact (mem_rows rfl j).mpr (by omega)
    exact hm _ _ (k0_off1_eq c)
  unfold bodyProg Pre
  simp only [Prog.lift, Prog.bind_op, Prog.bind_ret, wp_deviceId]
  simp only [wp_bind]
  unfold ats payToks creds
  rw [over_CI]
  iintro ⟨⟨⟨#Hrec, #Hlev, ⟨HatB, HatW, HatS, HatR⟩, ⟨Ht1, Ht2, HtW, HtS, HtR⟩, HcB, HcR⟩, ⟨Hag0, Hag1, HM⟩, HA, ⟨%W, HO⟩, Hx, Hsx, Hsw, Hout⟩, Hk⟩
  ihave H0 := (ag_split false c) $$ Hag0
  icases H0 with ⟨Hp0, Hb0⟩
  ihave H1 := (ag_split true c) $$ Hag1
  icases H1 with ⟨Hp1, Hb1⟩
  iapply (bar_step m ρ K c W)
  isplitr; · iexact Hrec
  isplitr; · iexact Hlev
  isplitl [HO]; · iexact HO
  isplitl [Ht1]; · iexact Ht1
  isplitl [Ht2]; · iexact Ht2
  isplitl [HcB]; · iexact HcB
  isplitl [HatB]; · iexact HatB
  isplitl [Hb0]; · iexact Hb0
  isplitl [Hb1]; · iexact Hb1
  iintro ⟨HO, HzB, Hn0, Hn1⟩
  ihave HS := (sends_start m ρ c) $$ [HatS HtS HtR Hn0 Hn1]
  · isplitl [HatS]; · iexact HatS
    isplitl [HtS]; · iexact HtS
    isplitl [HtR]; · iexact HtR
    isplitl [Hn0]; · iexact Hn0
    iexact Hn1
  ihave HR := (recvs_start m ρ c) $$ [HatR HcR]
  · isplitl [HatR]; · iexact HatR
    iexact HcR
  ihave Hx := (x_shares m ρ c).1 $$ Hx
  icases Hx with ⟨Hx, Hx0, Hx1⟩
  iapply (first_step m ρ K c)
  isplitr; · iexact Hrec
  isplitl [Hx0]; · iexact Hx0
  isplitl [Hx1]; · iexact Hx1
  isplitl [HO]; · iexact HO
  isplitl [HS]; · iexact HS
  iintro ⟨HO, HS⟩
  iapply (fetch_step m ρ K c)
  isplitr; · iexact Hrec
  isplitl [HA]; · iexact HA
  isplitl [HM]; · iexact HM
  isplitl [HtW]; · iexact HtW
  iintro HcW
  unfold sxPts swPts smemLoad
  iapply (wp_smemLoadElt 𝒱₀ (c : Thread nD τ) none Set.univ (m := sxM) (r := r1) (Finset.subset_univ _)) $$ Hsx; iintro Hsx
  rw [show (sxM.access r1 : View sig .tc _ _ _).read (Elt F) (sxV m ρ c) (Shape.Idx.first _) = sxE m ρ c from rfl, wp_ret]; imodintro
  iapply (wp_smemLoadElt 𝒱₀ (c : Thread nD τ) none Set.univ (m := swM) (r := r1) (Finset.subset_univ _)) $$ Hsw; iintro Hsw
  rw [show (swM.access r1 : View sig .tc _ _ _).read (Elt F) (swV m ρ c) (Shape.Idx.first _) = swE m ρ c from rfl, wp_ret]; imodintro
  iapply (await_step m ρ K c 4)
  isplitr; · iexact Hrec
  isplitr; · iexact Hlev
  isplitl [HO]; · iexact HO
  isplitl [HcW]; · iexact HcW
  isplitl [HatW]; · iexact HatW
  iintro ⟨HO, HzW, HM, HA⟩
  unfold wMPts
  iapply (wp_load 𝒱₀ (c : Thread nD τ) none Set.univ (m := wM) (by rw [show (wM : Memref sig .tc .vmem S4096x512 .f32).view.set = Finset.univ from View.set_whole _]; exact Finset.subset_univ _)) $$ HM; iintro HM
  rw [show (wM : Memref sig .tc .vmem S4096x512 .f32).view.readAt (Elt F) rW.toLoadRect (wV m c) = wV m c from
    Memref.readAt_unit_zero (Elt F) cc0_scratch2 hz2 _ _]
  simp only [wp_bind]
  unfold xPts
  iapply (own_step m ρ (outT m ρ c) c (sxE m ρ c) (swE m ρ c) (wV m c) fullShare.left (out_own m ρ c))
  isplitl [Hout]; · iexact Hout
  isplitl [Hx]; · iexact Hx
  iintro ⟨Hout, Hx⟩
  iapply (hops_all m ρ K (outT m ρ c) c (k0_pay1 (sxE m ρ c) (swE m ρ c)) (k0_pay2 (wV m c)) (out_rows m ρ c))
  isplitr; · iexact Hrec
  isplitr; · iexact Hlev
  isplitl [HO HS HR Hout]
  · unfold St
    isplitl [HO]; · iexact HO
    isplitl [HS]; · iexact HS
    isplitl [HR]; · iexact HR
    iapply (out_mono (outT m ρ c) c hnear); iexact Hout
  iintro HSt
  iapply (tail_step m ρ K (outT m ρ c) c (k0_pay1 (sxE m ρ c) (swE m ρ c)) (k0_pay2 (wV m c)) (out_rows m ρ c))
  isplitr; · iexact Hrec
  isplitr; · iexact Hlev
  isplitl [HSt]; · iexact HSt
  iintro ⟨HO, HS, HR, Hout⟩
  imod (sends_close m ρ K c) $$ [HS] with HS
  · isplitr; · iexact Hrec
    iexact HS
  imod (recvs_close m ρ K c) $$ [HR] with HR
  · isplitr; · iexact Hrec
    iexact HR
  ihave HS := (Entails.of_eq (bigSep_sep' Finset.univ (fun x : X => (semVal (cell c (kX false x)) 0 : sProp 𝕄)) (fun x : X => srcPts m ρ x c))) $$ HS
  ihave HR := (Entails.of_eq (bigSep_sep' Finset.univ (fun x : X => (semVal (cell c (kX true x)) 0 : sProp 𝕄)) (fun x : X => if isUsed x then kept m ρ c x else iprop(emp)))) $$ HR
  icases HS with ⟨HzS, HS⟩
  icases HR with ⟨HzR, HR⟩
  ihave HG := (gather_back m ρ c) $$ [HS HR Hp0 Hp1 Hx]
  · isplitl [HS]; · iexact HS
    isplitl [HR]; · iexact HR
    isplitl [Hp0]; · iexact Hp0
    isplitl [Hp1]; · iexact Hp1
    unfold xPts; iexact Hx
  icases HG with ⟨Hag0, Hag1, Hx⟩
  imodintro
  iapply Hk
  unfold Post zeros
  isplitl [HzB HzW HzS HzR]
  · isplitl [HzB]; · iexact HzB
    isplitl [HzW]; · iexact HzW
    isplitl [HzS]; · iexact HzS
    iexact HzR
  isplitl [Hag0 Hag1 HM]
  · isplitl [Hag0]; · iexact Hag0
    isplitl [Hag1]; · iexact Hag1
    iexists (wV m c); unfold wMPts; iexact HM
  isplitl [HA]; · iexact HA
  isplitl [HO]; · iexact HO
  isplitl [Hx]; · iexact Hx
  isplitl [Hsx]; · unfold sxPts; iexact Hsx
  isplitl [Hsw]; · unfold swPts; iexact Hsw
  iexact Hout

end Cert.KernelIdeal.Proof
-- ==== Proof.Ghost.lean ====
module

public import proofs.«01_k».proof.Proof.Body
public import Idealize.ShloMosaic.Harness.Basic
public import Idealize.ShloMosaic.Lib.Pipeline.CollectiveSegs

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The ghost state a launch begins with -/

variable (m : (ℓ : Loc nD τ sig) → Buf (Elt F) ℓ) (ρ : Dev nD → PrngReg)

/-! ## The credits -/

theorem tally_at (c : Dev nD) (k k' : CI) (n : ℕ) :
    (tallyAt (cell c k') () n : CellTallies nD τ sig Unit) (cell c k) () = if k = k' then n else 0 := by
  rw [tallyAt_apply]
  refine if_congr ⟨fun h => csem_injective (congrArg Prod.snd h.1), fun h => ⟨by rw [h], rfl⟩⟩ rfl rfl

/-- What all devices together owe a device's cell, each through a step of the ring. -/
theorem owed_at (d : Bool) (c : Dev nD) (k k' : CI) (n : ℕ) :
    (∑ a : Dev nD, (tallyAt (cell (nb d a) k') () n : CellTallies nD τ sig Unit) (cell c k) ()) = if k = k' then n else 0 :=
  (Smoke.sum_tallyAt_equiv (ring d) (csem k') () n c (csem k) ()).trans (tally_at c k k' n)

theorem owe_at (c : Dev nD) (k : CI) :
    (∑ a : Dev nD, owe a 0 (cell c k) ()) = ∑ x : X, if isUsed x then (if k = kX true x then N else 0) else 0 := by
  have h : ∀ a : Dev nD, owe a 0 (cell c k) () = ∑ x : X, if isUsed x then (tallyAt (cell (nb x.1 a) (kX true x)) () N : CellTallies nD τ sig Unit) (cell c k) () else 0 := by
    intro a
    unfold owe
    rw [Finset.sum_apply, Finsupp.finset_sum_apply]
    refine Finset.sum_congr rfl fun x _ => ?_
    by_cases hx : isUsed x
    · rw [if_pos ⟨hx, Nat.zero_le _⟩, if_pos hx]
    · rw [if_neg fun h => hx h.1, if_neg hx]; rfl
  rw [Finset.sum_congr rfl fun a _ => h a, Finset.sum_comm]
  refine Finset.sum_congr rfl fun x _ => ?_
  by_cases hx : isUsed x
  · simp only [if_pos hx]; exact owed_at x.1 c k (kX true x) N
  · simp only [if_neg hx, Finset.sum_const_zero]

theorem owes_at (c : Dev nD) (k : CI) :
    (∑ a : Dev nD, O₀ a (cell c k) ()) = (∑ x : X, if isUsed x then (if k = kX true x then N else 0) else 0) + (if k = kB then 1 else 0) + (if k = kB then 1 else 0) := by
  rw [← owe_at c k]
  have e : ∀ a : Dev nD, O₀ a (cell c k) () = owe a 0 (cell c k) () + (tallyAt (cell (nb false a) kB) () 1 : CellTallies nD τ sig Unit) (cell c k) ()
      + (tallyAt (cell (nb true a) kB) () 1 : CellTallies nD τ sig Unit) (cell c k) () := fun a => rfl
  rw [Finset.sum_congr rfl fun a _ => e a, Finset.sum_add_distrib, Finset.sum_add_distrib, owed_at, owed_at]

theorem launch_at (c : Dev nD) (k : CI) :
    tallyOn (cell c k) (launchCredit (Pipeline.owing O₀) 0 (cell c k)) = (tallyAt (cell c k) () (∑ a : Dev nD, O₀ a (cell c k) ()) : CellTallies nD τ sig Unit) := by
  unfold tallyAt
  refine congrArg _ (Finsupp.ext fun u => ?_)
  cases u
  rw [Pipeline.launchCredit_owing, Finsupp.single_eq_same]

theorem creds_intro (c : Dev nD) : (Pipeline.launchCred O₀ c : sProp 𝕄) ⊢ creds (F := F) c := by
  have h1 : (Pipeline.launchCred O₀ c : sProp 𝕄) ⊢ bigSep Finset.univ fun k : CI => cred (tallyAt (cell c k) () (∑ a : Dev nD, O₀ a (cell c k) ())) := by
    unfold Pipeline.launchCred
    refine (bigSep_subset (Finset.subset_univ (Finset.univ.map ⟨csem, csem_injective⟩))).trans ?_
    rw [bigSep_map]
    exact Entails.of_eq (bigSep_congr fun k _ => congrArg _ (launch_at c k))
  refine BIBase.Entails.trans h1 ?_
  have h2 : iprop(cred (tallyAt (cell c kB) () (∑ a : Dev nD, O₀ a (cell c kB) ())) ∗ cred (tallyAt (cell c kW) () (∑ a : Dev nD, O₀ a (cell c kW) ()))
      ∗ (bigSep Finset.univ fun x : X => cred (tallyAt (cell c (kX false x)) () (∑ a : Dev nD, O₀ a (cell c (kX false x)) ())))
      ∗ (bigSep Finset.univ fun x : X => cred (tallyAt (cell c (kX true x)) () (∑ a : Dev nD, O₀ a (cell c (kX true x)) ())))) ⊢ creds (F := F) c := by
    have hB : (∑ a : Dev nD, O₀ a (cell c kB) ()) = 2 := by
      rw [owes_at, Finset.sum_eq_zero fun x _ => by rw [if_neg (nofun : ¬ kB = kX true x), ite_self]]; rfl
    have hX : (bigSep Finset.univ fun x : X => (cred (tallyAt (cell c (kX true x)) () (∑ a : Dev nD, O₀ a (cell c (kX true x)) ())) : sProp 𝕄))
        ⊢ bigSep Finset.univ fun x : X => if isUsed x then cred (tallyAt (cell c (kX true x)) () N) else iprop(emp) := by
      refine bigSep_mono fun x _ => ?_
      by_cases hx : isUsed x
      · rw [if_pos hx, owes_at, if_neg (nofun : ¬ kX true x = kB), Finset.sum_eq_single_of_mem x (Finset.mem_univ _) fun y _ hy => by
          rw [if_neg ((fun h => hy (by cases h; rfl)) : ¬ kX true x = kX true y), ite_self], if_pos hx, if_pos rfl]
        exact BI.Entails.refl _
      · rw [if_neg hx]
        show (_ : sProp 𝕄) ⊢ _
        iintro -; iempintro
    unfold creds
    rw [hB]
    iintro ⟨HB, -, -, HX⟩
    isplitl [HB]; · iexact HB
    iapply hX; iexact HX
  rw [over_CI]
  exact h2

/-! ## The tokens -/

/-- The duties of a device's cell are paid by the device this many steps round the ring. -/
def payer : CI × Bool → Dev nD ≃ Dev nD
  | (.inl _, b) => ring (!b)
  | (.inr (.inl _), _) => Equiv.refl _
  | (.inr (.inr (true, x)), _) => ring x.1
  | (.inr (.inr (false, _)), _) => Equiv.refl _

/-- Every device's tokens, and those of the duties each pays. -/
def toks (c : Dev nD) : sProp 𝕄 := bigSep Finset.univ fun p : CI × Bool => dutyTok ER (cell c p.1) 0 p.2

def deal : Dev nD × (CI × Bool) ≃ Dev nD × (CI × Bool) where
  toFun p := (payer p.2 p.1, p.2)
  invFun p := ((payer p.2).symm p.1, p.2)
  left_inv p := by simp only [Equiv.symm_apply_apply]
  right_inv p := by simp only [Equiv.apply_symm_apply]

theorem toks_dealt : (bigSep Finset.univ fun c : Dev nD => (toks (F := F) c)) ⊢ bigSep Finset.univ fun c : Dev nD => payToks (F := F) c := by
  have h1 : (bigSep Finset.univ fun c : Dev nD => (toks (F := F) c))
      = bigSep Finset.univ fun c : Dev nD => bigSep Finset.univ fun p : CI × Bool => (dutyTok ER (cell (payer p c) p.1) 0 p.2 : sProp 𝕄) := by
    unfold toks
    rw [← bigSep_univ_prod (fun p : Dev nD × (CI × Bool) => (dutyTok ER (cell p.1 p.2.1) 0 p.2.2 : sProp 𝕄)),
      bigSep_univ_equiv deal (fun p : Dev nD × (CI × Bool) => (dutyTok ER (cell p.1 p.2.1) 0 p.2.2 : sProp 𝕄)), bigSep_univ_prod]
    rfl
  rw [h1]
  refine bigSep_mono fun c _ => ?_
  rw [bigSep_univ_prod (fun p : CI × Bool => (dutyTok ER (cell (payer p c) p.1) 0 p.2 : sProp 𝕄)),
    bigSep_congr (s := Finset.univ) (fun (k : CI) _ => over_bool fun b : Bool => (dutyTok ER (cell (payer (k, b) c) k) 0 b : sProp 𝕄)), bigSep_sep',
    over_CI, over_CI]
  show iprop((dutyTok ER (cell (nb true c) kB) 0 false ∗ dutyTok ER (cell c kW) 0 false
      ∗ (bigSep Finset.univ fun x : X => dutyTok ER (cell c (kX false x)) 0 false)
      ∗ bigSep Finset.univ fun x : X => dutyTok ER (cell (nb x.1 c) (kX true x)) 0 false)
    ∗ (dutyTok ER (cell (nb false c) kB) 0 true ∗ dutyTok ER (cell c kW) 0 true
      ∗ (bigSep Finset.univ fun x : X => dutyTok ER (cell c (kX false x)) 0 true)
      ∗ bigSep Finset.univ fun x : X => dutyTok ER (cell (nb x.1 c) (kX true x)) 0 true)) ⊢ payToks (F := F) c
  unfold payToks
  iintro ⟨⟨H1, H2, H3, H4⟩, H5, -⟩
  isplitl [H1]; · iexact H1
  isplitl [H5]; · iexact H5
  isplitl [H2]; · iexact H2
  isplitl [H3]; · iexact H3
  iexact H4

/-! ## The rounds -/

theorem at_injective : Function.Injective (fun p : Dev nD × CI => cell p.1 p.2) := fun p q h =>
  Prod.ext (congrArg (fun g : GSem nD τ sig => g.1.1) h) (csem_injective (congrArg Prod.snd h))
theorem tok_injective : Function.Injective (fun p : Dev nD × (CI × Bool) => ((cell p.1 p.2.1, 0, p.2.2) : GSem nD τ sig × ℕ × Bool)) := fun p q h =>
  have e : ((p.1, p.2.1) : Dev nD × CI) = (q.1, q.2.1) := at_injective (congrArg Prod.fst h)
  Prod.ext (Prod.mk.inj e).1 (Prod.ext (Prod.mk.inj e).2 (congrArg (fun g : GSem nD τ sig × ℕ × Bool => g.2.2) h))
def allCells : Finset (GSem nD τ sig) := Finset.univ.map ⟨_, at_injective⟩
def allToks : Finset (GSem nD τ sig × ℕ × Bool) := Finset.univ.map ⟨_, tok_injective⟩

def u₀ : UU := (initOf (Pipeline.cells cfgs cellOf_inj) (Pipeline.launchToks cfgs cellOf_inj), initOf allCells allToks)

def G (c : Dev nD) : sProp 𝕄 :=
  iprop((bigSep Finset.univ fun k : CI => roundState ER (Rd (F := F) m ρ) (cell c k) 0) ∗ (bigSep Finset.univ fun k : CI => reached ER (cell c k) 0)
    ∗ ats (F := F) c ∗ toks (F := F) c)
/-- What a device begins with. -/
def G' (c : Dev nD) : sProp 𝕄 := iprop(∃ K, recs (F := F) m ρ K ∗ ats (F := F) c ∗ payToks (F := F) c)

theorem fund_all : BI.own (ER (initOf allCells allToks)) ⊢ (|==> bigSep Finset.univ (G (F := F) m ρ) : sProp 𝕄) := by
  have hX (Φ : GSem nD τ sig → sProp 𝕄) : bigSep allCells Φ = bigSep Finset.univ fun c : Dev nD => bigSep Finset.univ fun k : CI => Φ (cell c k) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats; simp only [bigSep_sep']
  isplitl [Hst]; · iexact Hst
  isplitl [Hr]; · iexact Hr
  isplitl [Hat]; · iexact Hat
  iexact Htok

/-! ## The semaphores -/

theorem unscoped_eq (c : Dev nD) : (unscopedSems0 c : sProp 𝕄) = semVal (cell c kB) 0 := by
  unfold unscopedSems0; rw [bigSep_eq_bigSepL_of_eq [SemLoc.reg barS] (by decide) (by decide)]; rfl
theorem own_eq (c : Dev nD) : (Pipeline.ownSems0 (Ix := Unit) (Name := ℕ) (U := UU) (Lvl := ℕ) (Val := Elt F) (τ := τ) osem c : sProp 𝕄)
    = bigSep Finset.univ fun k : OI => semVal (cell c (.inr k)) 0 := rfl
theorem sems_eq (c : Dev nD) :
    (bigSep Finset.univ fun k : CI => (semVal (cell c k) 0 : sProp 𝕄))
      = iprop(unscopedSems0 c ∗ Pipeline.ownSems0 (Ix := Unit) (Name := ℕ) (U := UU) (Lvl := ℕ) (Val := Elt F) (τ := τ) osem c) := by
  rw [over_sum, over_unit, unscoped_eq, own_eq]
theorem zeros_eq (c : Dev nD) : zeros (F := F) c ⊢ iprop(unscopedSems0 c ∗ Pipeline.ownSems0 (Ix := Unit) (Name := ℕ) (U := UU) (Lvl := ℕ) (Val := Elt F) (τ := τ) osem c) := by
  rw [← sems_eq, over_CI]; unfold zeros; exact BI.Entails.refl _

theorem own_facts : Pipeline.OwnSemFacts cfg0.spec osem := by decide

theorem core_start (c : Dev nD) :
    iprop(Pipeline.ownSems0 (Ix := Unit) (Name := ℕ) (U := UU) (Lvl := ℕ) (Val := Elt F) (τ := τ) osem c ∗ unscopedSems0 c ∗ G (F := F) m ρ c)
      ⊢ |={Set.univ}=> iprop((bigSep Finset.univ fun k : CI => iprop(∃ κ : ℕ, cellInv ER (Rd (F := F) m ρ) κ (cell c k)))
          ∗ (bigSep Finset.univ fun k : CI => reached ER (cell c k) 0) ∗ ats (F := F) c ∗ toks (F := F) c) := by
  have hI : iprop((bigSep Finset.univ fun k : CI => semVal (cell c k) 0) ∗ bigSep Finset.univ fun k : CI => roundState ER (Rd (F := F) m ρ) (cell c k) 0)
      ⊢ (|={Set.univ}=> bigSep Finset.univ fun k : CI => iprop(∃ κ : ℕ, cellInv ER (Rd (F := F) m ρ) κ (cell c k)) : sProp 𝕄) := by
    rw [← bigSep_sep']
    exact (bigSep_mono fun k _ => (Rounds.body_intro ER (Rd m ρ) (cell c k)).trans inv_alloc).trans (bigSep_fupd _ _)
  unfold G
  iintro ⟨Hos, Hus, Hst, Hr, Hat, Htok⟩
  imod hI $$ [Hos Hus Hst] with HI
  · isplitl [Hos Hus]
    · iapply (Entails.of_eq (sems_eq (F := F) c).symm)
      isplitl [Hus]; · iexact Hus
      iexact Hos
    iexact Hst
  imodintro
  isplitl [HI]; · iexact HI
  isplitl [Hr]; · iexact Hr
  isplitl [Hat]; · iexact Hat
  iexact Htok

theorem all_start :
    (bigSep Finset.univ fun c : Dev nD => iprop((bigSep Finset.univ fun k : CI => iprop(∃ κ : ℕ, cellInv ER (Rd (F := F) m ρ) κ (cell c k)))
          ∗ (bigSep Finset.univ fun k : CI => reached ER (cell c k) 0) ∗ ats (F := F) c ∗ toks (F := F) c) : sProp 𝕄)
      ⊢ bigSep Finset.univ (G' (F := F) m ρ) := by
  have each : ∀ K, iprop(recs (F := F) m ρ K ∗ bigSep Finset.univ fun c : Dev nD => iprop(ats (F := F) c ∗ payToks (F := F) c)) ⊢ bigSep Finset.univ (G' (F := F) m ρ) := fun K => by
    refine (sep_mono_left (BI.bigSep_of_persistent (Finset.univ : Finset (Dev nD)) (recs (F := F) m ρ K))).trans ?_
    rw [← bigSep_sep']
    refine bigSep_mono fun c _ => ?_
    show iprop(recs (F := F) m ρ K ∗ ats (F := F) c ∗ payToks (F := F) c) ⊢ G' (F := F) m ρ c
    unfold G'
    iintro H
    iexists K; iexact H
  rw [bigSep_sep', bigSep_sep', bigSep_sep', ← bigSep_univ_prod (fun p : Dev nD × CI => iprop(∃ κ : ℕ, cellInv ER (Rd (F := F) m ρ) κ (cell p.1 p.2))),
    ← bigSep_univ_prod (fun p : Dev nD × CI => (reached ER (cell p.1 p.2) 0 : sProp 𝕄))]
  iintro ⟨HI, Hr, Hat, Htok⟩
  ihave HK := (BI.bigSep_exists_pi Finset.univ (fun (p : Dev nD × CI) (κ : ℕ) => (cellInv ER (Rd (F := F) m ρ) κ (cell p.1 p.2) : sProp 𝕄))) $$ HI
  icases HK with ⟨%K, HI⟩
  ihave Htok := (toks_dealt (F := F)) $$ Htok
  iapply (each K)
  isplitl [HI Hr]
  · unfold recs
    iapply (Entails.of_eq (bigSep_sep' Finset.univ (fun p : Dev nD × CI => (cellInv ER (Rd (F := F) m ρ) (K p) (cell p.1 p.2) : sProp 𝕄)) (fun p => reached ER (cell p.1 p.2) 0)).symm)
    isplitl [HI]; · iexact HI
    iexact Hr
  iapply (Entails.of_eq (bigSep_sep' Finset.univ (fun c : Dev nD => ats (F := F) c) (fun c => payToks (F := F) c)).symm)
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G (F := F) m ρ c) : sProp 𝕄)
    ⊢ |={Set.univ}=> bigSep Finset.univ (G' (F := F) m ρ) :=
  ((bigSep_mono fun c _ => core_start m ρ c).trans (bigSep_fupd _ _)).trans (BI.fupd_mono (all_start m ρ))

end Cert.KernelIdeal.Proof
-- ==== Proof.Launch.lean ====
module

public import proofs.«01_k».proof.Proof.Ghost
public import proofs.«01_k».proof.Proof.Gen.KernelIdeal.Frame
public import Idealize.ShloMosaic.Lib.Pipeline.ValueKit

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The launch -/

variable (m : (ℓ : Loc nD τ sig) → Buf (Elt F) ℓ) (ρ : Dev nD → PrngReg)

/-! ## Proof data -/

/-- The scratch buffers and the weights, which no window stages. -/
def scr (c : Dev nD) : sProp 𝕄 := iprop(agAll (F := F) false c ∗ agAll (F := F) true c ∗ (∃ f, wMPts (F := F) c f))
def start (c : Dev nD) : sProp 𝕄 := iprop(G' (F := F) m ρ c ∗ creds (F := F) c ∗ levAts L lv ∗ wAPts m c)
def Φ₀ (c : Dev nD) : sProp 𝕄 := iprop(start m ρ c ∗ scr (F := F) c)
def Φ₁ (c : Dev nD) : sProp 𝕄 := iprop(zeros (F := F) c ∗ scr (F := F) c ∗ wAPts m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => sxV m ρ c
    | ⟨2, _⟩ => swV m ρ c
    | ⟨3, _⟩ => outT m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem share_full (c : Dev nD) (w : Fin cfg0.W) : (dats m ρ 0 c).share w = fullShare := by unfold Dat.share; split <;> rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- A whole staging buffer at some contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def given (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def left (c : Dev nD) : sProp 𝕄 :=
  iprop(Φ₁ m c ∗ (dats m ρ 0 c).owesAt () t0_0.succ ∗ stg c cc0_stg0_0 (xstg m ρ c) ∗ stg c cc0_stg1_0 (sxV m ρ c) ∗ stg c cc0_stg2_0 (swV m ρ c)
    ∗ stg c cc0_stg3_0 (outT m ρ c))

theorem before_x (c : Dev nD) (d) : (dats m ρ 0 c).before (0 : Fin 4) t0_0 d = xstg m ρ c := by unfold Dat.before; rw [if_pos (fetch0_0 t0_0)]; rfl
theorem before_sx (c : Dev nD) (d) : (dats m ρ 0 c).before (1 : Fin 4) t0_0 d = sxV m ρ c := by unfold Dat.before; rw [if_pos (fetch0_1 t0_0)]; rfl
theorem before_sw (c : Dev nD) (d) : (dats m ρ 0 c).before (2 : Fin 4) t0_0 d = swV m ρ c := by unfold Dat.before; rw [if_pos (fetch0_2 t0_0)]; rfl

theorem body_run (c : Dev nD) : given m ρ c ⊢ Wp (F := F) c bodyProg fun _ => left m ρ c := by
  unfold given Φ₀ start G'
  iintro ⟨⟨⟨⟨%K, Hg⟩, Hcr, Hlev, HA⟩, Hscr⟩, Ho, ⟨%d0, %g0, %h0, H0⟩, ⟨%d1, %g1, %h1, H1⟩, ⟨%d2, %g2, %h2, H2⟩, ⟨%d3, %g3, %h3, H3⟩⟩
  have h0 := h0.trans (before_x m ρ c d0)
  have h1 := h1.trans (before_sx m ρ c d1)
  have h2 := h2.trans (before_sw m ρ c d2)
  subst h0 h1 h2
  unfold Dat.owesAt Pipeline.owesWithin
  icases Ho with ⟨%W, %hW, HO⟩
  rw [show (dats m ρ 0 c).owed t0_0.castSucc = O₀ c from rfl]
  icases Hg with ⟨Hrec, Hat, Htok⟩
  iapply (body_step m ρ K c fun _ => left m ρ c)
  isplitr []
  · unfold Pre
    isplitl [Hrec Hat Htok Hlev Hcr]
    · isplitl [Hrec]; · iexact Hrec
      isplitl [Hlev]; · iexact Hlev
      isplitl [Hat]; · iexact Hat
      isplitl [Htok]; · iexact Htok
      iexact Hcr
    isplitl [Hscr]; · unfold scr; iexact Hscr
    isplitl [HA]; · iexact HA
    isplitl [HO]; · iexists W; iexact HO
    isplitl [H0]; · unfold xPts; iexact H0
    isplitl [H1]; · unfold sxPts; iexact H1
    isplitl [H2]; · unfold swPts; iexact H2
    unfold OutP
    iexists g3
    isplitr; · ipureintro; exact fun _ h => h.elim
    iexact H3
  unfold Post Owes xPts sxPts swPts OutP
  iintro ⟨Hz, Hscr, HA, ⟨%W', HO⟩, H0, H1, H2, ⟨%f, %hf, H3⟩⟩
  unfold left Φ₁ scr Dat.owesAt Pipeline.owesWithin
  rw [show (dats m ρ 0 c).owed t0_0.succ = 0 from rfl]
  isplitl [Hz Hscr HA]
  · isplitl [Hz]; · iexact Hz
    isplitl [Hscr]; · iexact Hscr
    iexact HA
  isplitl [HO]
  · iexists W'
    isplitr; · ipureintro; exact fun _ _ => Or.inl trivial
    rw [← owe_end c]
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists f; isplitr; · (ipureintro; exact funext fun j => hf j trivial)
  iexact H3

set_option maxRecDepth 16384 in
theorem body_obligation (c : Dev nD) : BodyObligation (dats (F := F) m ρ 0 c) (defs₀ (F := F)) 𝒱₀ () Set.univ := fun t => by
  rw [fin_N0 t]
  rw [bigSep_W0, bigSep_W0]
  simp only [owns_whole]
  show given m ρ c ⊢ wp frame (wpE (defs₀ (F := F)) 𝒱₀ c none) Set.univ
    (cc0_body (F := F) xM (Memref.isWhole_whole _) wA (Memref.isWhole_whole _) sxM (Memref.isWhole_whole _) swM (Memref.isWhole_whole _)
      oM (Memref.isWhole_whole _) (Memref.whole cc0_scratch0) (Memref.isWhole_whole _) (Memref.whole cc0_scratch1) (Memref.isWhole_whole _)
      wM (Memref.isWhole_whole _) cc0_scratch3 cc0_scratch4 cc0_scratch5 cc0_scratch6 cc0_scratch7) (fun _ => left m ρ c)
  rw [body_eq]
  exact body_run m ρ c

/-! ## Side conditions -/

theorem wA_eq (c : Dev nD) : wAPts m c = (((c : Thread nD τ).loc main_arg1) ↦{fullShare} m ((c : Thread nD τ).loc main_arg1) : sProp 𝕄) := by
  unfold wAPts
  rw [show (wA : Memref sig .tc .hbm S4096x512 .f32).view.set = Finset.univ from View.set_whole _]
theorem wM_eq (c : Dev nD) (f) : wMPts (F := F) c f = (((c : Thread nD τ).loc cc0_scratch2) ↦{fullShare} f : sProp 𝕄) := by
  unfold wMPts
  rw [show (wM : Memref sig .tc .vmem S4096x512 .f32).view.set = Finset.univ from View.set_whole _]
theorem scr_eq (c : Dev nD) : scr (F := F) c = Pipeline.scopedRest cfg0.spec c := by
  rw [scopedRest0_eq]
  unfold scr
  rw [show (fun f => wMPts (F := F) c f) = fun f => (((c : Thread nD τ).loc cc0_scratch2) ↦{fullShare} f : sProp 𝕄) from funext fun f => wM_eq c f]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m ρ c)
      ⊢ |={Set.univ}=> iprop(start m ρ c ∗ emp) := by
  rw [Pipeline.unscopedRestP_none, unscopedRest0_eq, ← wA_eq]
  iintro ⟨HA, Hlev, Hcr, -, HG⟩
  ihave Hcr := (creds_intro (F := F) c) $$ Hcr
  imodintro
  unfold start
  isplitl
  · isplitl [HG]; · iexact HG
    isplitl [Hcr]; · iexact Hcr
    isplitl [Hlev]; · iexact Hlev
    iexact HA
  · iempintro

theorem first_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scr_eq]
  unfold Φ₀
  iintro ⟨Hs, -, Hr⟩
  isplitl [Hs]; · iexact Hs
  iexact Hr

/-- What is read off once the kernel has ended: the barrier's counter and the weights. -/
def ends (c : Dev nD) : sProp 𝕄 := iprop(unscopedSems0 c ∗ wAPts m c)

theorem last_exit (c : Dev nD) :
    (dats m ρ 0 c).Φ (Fin.last cfg0.N) ⊢ iprop(ends m c ∗ Pipeline.ownSems0 osem c ∗ Pipeline.scopedRest cfg0.spec c) := by
  rw [show (dats m ρ 0 c).Φ (Fin.last cfg0.N) = Φ₁ m c from rfl, ← scr_eq]
  unfold Φ₁ ends
  iintro ⟨Hz, Hscr, HA⟩
  ihave Hz := (zeros_eq (F := F) c) $$ Hz
  icases Hz with ⟨HB, HO⟩
  isplitl [HB HA]
  · isplitl [HB]; · iexact HB
    iexact HA
  isplitl [HO]; · iexact HO
  iexact Hscr

theorem waits (c : Dev nD) : (levAts L lv : sProp 𝕄) ⊢ Pipeline.cellsWaits cfgs (dats m ρ) () 0 c :=
  Pipeline.cellsWaits_intro cfgs (dats m ρ) () 0 c fun w s t =>
    mayWait c _ 0 (by rw [dec_stage _ (by fin_cases w <;> fin_cases s <;> decide)]; exact Nat.le_refl 0) _ (by
      rcases t with ⟨_ | _, ht⟩
      · exact above_O₀ c
      · exact above_zero 0)

theorem ends_read (c : Dev nD) (s' : Phys nD τ sig (Elt F)) :
    iprop(ends m c ∗ emp ∗ SI s') ⊢ |={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ (SI s' : sProp 𝕄)) := by
  have hr : iprop(wAPts m c ∗ SI s') ⊢ iprop(⌜∀ i ∈ ({()} : Finset Unit), s'.mem.mem ((c : Thread nD τ).loc main_arg1) = m ((c : Thread nD τ).loc main_arg1)⌝ ∗ (SI s' : sProp 𝕄)) := by
    have h := pointsTo_read_all (Ix := Unit) (Name := ℕ) (U := UU) (Lvl := ℕ) ({()} : Finset Unit) (fun _ => (c : Thread nD τ).loc main_arg1) (fun _ => m ((c : Thread nD τ).loc main_arg1)) s'
    rw [bigSep_singleton, ← wA_eq] at h
    exact h
  unfold ends
  iintro ⟨⟨Hu, HA⟩, -, HSI⟩
  ihave H := hr $$ [HA HSI]
  · isplitl [HA] <;> iassumption
  icases H with ⟨%hA, HSI⟩
  imod (Pipeline.unscopedSems0_read (X := unscopedSems0 c) (c := c) fupd_intro s') $$ [Hu HSI] with H
  · isplitl [Hu] <;> iassumption
  icases H with ⟨%hs, HSI⟩
  imodintro
  isplitr; · ipureintro; exact ⟨hs, hA () (Finset.mem_singleton_self _)⟩
  iexact HSI

/-! ## The run -/

theorem out_final (c : Dev nD) : (dats m ρ 0 c).arrAt (3 : Fin 4) cfg0.N = outT m ρ c := by
  refine (dats m ρ 0 c).arrAt_eq_of_after_last (3 : Fin 4) t0_0 (by decide +kernel) _ fun j => ?_
  blk_simp
  rfl

/-- The state a run ends in: the arguments as they were, the result computed, every counter at zero. -/
def Done (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v1) = outT m ρ c)
    ∧ r.2.sem = fun _ => 0

set_option maxRecDepth 16384 in
theorem run_main : θ_run defs (onTc (τ := τ) (main (F := F))) (s₀ m ρ) (Done m ρ) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun c => (main_chain c).trans rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := ends m) (Z := fun _ => iprop(emp))
    (hX := start_intro m ρ) (hin := first_intro m ρ) (hout := last_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := ends_read m)
    (hQ := fun _ h hs => ⟨fun c => ⟨((h c).1 0).trans ((dats m ρ 0 c).arrAt_in 0 rfl _), (h c).2.2.2,
      ((h c).1 1).trans ((dats m ρ 0 c).arrAt_in 1 rfl _), ((h c).1 2).trans ((dats m ρ 0 c).arrAt_in 2 rfl _),
      ((h c).1 3).trans (out_final m ρ c)⟩, sem_eq_zero hs fun c => (h c).2.2.1⟩)

end Cert.KernelIdeal.Proof
-- ==== Proof.Frames.lean ====
module
public import proofs.«01_k».proof.Defs
public import proofs.«01_k».proof.Proof.Gen.Kernel
public import proofs.«01_k».proof.Proof.Launch
@[expose] public section
noncomputable section
namespace Cert.KernelIdeal.Proof
open Idealize.ShloMosaic Idealize.ShloMosaic.TcCoe Idealize.SL.Sem
variable {F : FTy → Type} [FloatOps F]

/-! # Both readings of the kernel leave their arguments alone and every counter at zero

The kernel as printed and its ideal reading are one text, since no operation of it is rewritten for the ideal reading:
the two definitions unfold to the same program, and the run proved for any float values serves both. -/

set_option maxRecDepth 65536 in
theorem labels_same : Cert.Kernel.defs₀ (F := F) = Cert.KernelIdeal.defs₀ (F := F) :=
  congrArg Defs.onTc (funext fun l => funext fun a => by
    obtain ⟨_ | n, h⟩ := l
    · obtain ⟨t, s⟩ := a
      rfl
    · exact absurd h (Nat.not_lt.2 (Nat.le_add_left _ _)))
theorem defs_same : Cert.Kernel.defs (F := F) = Cert.KernelIdeal.defs (F := F) := congrArg (Pipeline.defs Cert.KernelIdeal.pcfgs) labels_same
set_option maxRecDepth 65536 in
theorem main_same : Cert.Kernel.main (F := F) = Cert.KernelIdeal.main (F := F) := rfl

theorem frame_ideal : Cert.quiescent_KernelIdeal := fun m g _ =>
  (θ_run _ _ _).mono (fun _ h => ⟨fun c => ⟨(h.1 c).1, (h.1 c).2.1, (h.1 c).2.2.1, (h.1 c).2.2.2.1⟩, h.2⟩) (run_main (F := Ideal) m g)

theorem frame_words : Cert.quiescent_Kernel := fun m g _ => by
  rw [defs_same, main_same]
  exact (θ_run _ _ _).mono (fun _ h => ⟨fun c => ⟨(h.1 c).1, (h.1 c).2.1, (h.1 c).2.2.1, (h.1 c).2.2.2.1⟩, h.2⟩) (run_main (F := Bits) m g)

end Cert.KernelIdeal.Proof
-- ==== Proof.Product.lean ====
module
public import proofs.«01_k».proof.Proof.Gen.KernelIdeal.Skeleton
public import proofs.«01_k».proof.Proof.Gen.KernelIdeal
public import proofs.«01_k».proof.Proof.Gen.ReferenceIdeal.Skeleton
public import proofs.«01_k».proof.Proof.Gen.ReferenceIdeal
public import Idealize.ShloMosaic.Lib.Pointwise
@[expose] public section
noncomputable section
namespace Cert.Proof
open Idealize.ShloMosaic
open Cert.KernelIdeal (S256x4096 S1x256x4096 S1x128x4096 S4096x512)
open Cert.ReferenceIdeal (S4096x4096 S4096x8192)

/-! # What each product stores, element by element, over the reals -/

/-- A row of `x` against a column of `w`, scaled, and cut off below at zero. -/
def scaled (f g : Fin 4096 → EReal) (s : EReal) : EReal := max ((∑ k, f k * g k) * s) 0

/-- A device's own rows. -/
theorem own_at (a b : Ideal .f32) (w : Vec Ideal S4096x512 .f32) (x : Vec Ideal S256x4096 .fp8e4m3) (r : Fin 256) (l : Fin 512) :
    Cert.KernelIdeal.Gen.k0_pay3 a b w x (ix2 r l) = scaled (fun k => x (ix2 r k)) (fun k => w (ix2 k l)) (a * b) := by
  pointwise [Cert.KernelIdeal.Gen.k0_pay3, Cert.KernelIdeal.Gen.k0_pay2, Cert.KernelIdeal.Gen.k0_pay1, scaled]

/-- A block of rows as it lies in a slot of a gather buffer. -/
theorem slot_at (a b : Ideal .f32) (w : Vec Ideal S4096x512 .f32) (x : Vec Ideal S1x256x4096 .fp8e4m3) (r : Fin 256) (l : Fin 512) :
    Cert.KernelIdeal.Gen.k0_pay4 (Cert.KernelIdeal.Gen.k0_pay1 a b) (Cert.KernelIdeal.Gen.k0_pay2 w) x (ix2 r l)
      = scaled (fun k => x (ix3 0 r k)) (fun k => w (ix2 k l)) (a * b) := by
  pointwise [Cert.KernelIdeal.Gen.k0_pay4, Cert.KernelIdeal.Gen.k0_pay2, Cert.KernelIdeal.Gen.k0_pay1, scaled]

/-- Half a block, as the last hop leaves it. -/
theorem half_at (a b : Ideal .f32) (w : Vec Ideal S4096x512 .f32) (x : Vec Ideal S1x128x4096 .fp8e4m3) (r : Fin 128) (l : Fin 512) :
    Cert.KernelIdeal.Gen.k0_pay18 (Cert.KernelIdeal.Gen.k0_pay1 a b) (Cert.KernelIdeal.Gen.k0_pay2 w) x (ix2 r l)
      = scaled (fun k => x (ix3 0 r k)) (fun k => w (ix2 k l)) (a * b) := by
  pointwise [Cert.KernelIdeal.Gen.k0_pay18, Cert.KernelIdeal.Gen.k0_pay2, Cert.KernelIdeal.Gen.k0_pay1, scaled]

/-- The reference, over the whole arrays. -/
theorem whole_at (a b : Ideal .f32) (w : Vec Ideal S4096x8192 .f32) (x : Vec Ideal S4096x4096 .fp8e4m3) (r : Fin 4096) (l : Fin 8192) :
    Cert.ReferenceIdeal.Gen.k0_pay1 x w a b (ix2 r l) = scaled (fun k => x (ix2 r k)) (fun k => w (ix2 k l)) (a * b) := by
  pointwise [Cert.ReferenceIdeal.Gen.k0_pay1, scaled]

end Cert.Proof
-- ==== Proof.Whole.lean ====
module
public import proofs.«01_k».proof.Proof.Product
public import proofs.«01_k».proof.Proof.Gen.ReferenceIdeal.Value
public import Idealize.ShloMosaic.Lib.Pipeline.ValueKit
public import Idealize.ShloMosaic.Lib.Pipeline.ReadBack
@[expose] public section
set_option maxRecDepth 16384
noncomputable section
namespace Cert.ReferenceIdeal.Proof
open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! # What the reference leaves -/

/-- The arguments as the reference's memory holds them. -/
def xA : Vec Ideal S4096x4096 .fp8e4m3 := m (((0 : Dev nD) : Thread nD τ).loc main_arg0)
def wA : Vec Ideal S4096x8192 .f32 := m (((0 : Dev nD) : Thread nD τ).loc main_arg1)
def sxA : Vec Ideal S1 .f32 := m (((0 : Dev nD) : Thread nD τ).loc main_arg2)
def swA : Vec Ideal S1 .f32 := m (((0 : Dev nD) : Thread nD τ).loc main_arg3)

/-- The reference's result: every row of `x` against every column of `w`, scaled, and cut off below at zero. -/
def refT : Vec Ideal S4096x8192 .f32 := fun j =>
  Cert.Proof.scaled (fun k => xA m (ix2 (j (0 : Fin 2)) k)) (fun k => wA m (ix2 k (j (1 : Fin 2)))) (sxA m (ix1 0) * swA m (ix1 0))

/-- The one point of the grid reads and writes every array whole. -/
theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 := by decide +kernel
theorem index3 : ∀ t : Fin grid0.N, win0_3.index t 0 = 0 := by decide +kernel
theorem index4 : ∀ t : Fin grid0.N, win0_4.index t 0 = 0 ∧ win0_4.index t 1 = 0 := by decide +kernel

/-- So what the point is given are the arguments themselves. -/
theorem read0 (t : Fin cfg0.N) (a b : Fin 4096) : iblk m 0 0 t (ix2 a b) = xA m (ix2 a b) := by
  have h := index0 t
  blk_ext [iblk, V, h.1, h.2, xA]
theorem read1 (t : Fin cfg0.N) (a : Fin 4096) (b : Fin 8192) : iblk m 0 1 t (ix2 a b) = wA m (ix2 a b) := by
  have h := index1 t
  blk_ext [iblk, V, h.1, h.2, wA]
theorem read2 (t : Fin cfg0.N) (h) : iblk m 0 2 t (Shape.Idx.first h) = sxA m (ix1 0) := by
  have h := index2 t
  blk_ext [iblk, V, h, sxA]
theorem read3 (t : Fin cfg0.N) (h) : iblk m 0 3 t (Shape.Idx.first h) = swA m (ix1 0) := by
  have h := index3 t
  blk_ext [iblk, V, h, swA]

/-- What the reference leaves is that result. -/
theorem final_whole : (dats m 0 0).arrAt 4 cfg0.N = refT m := by
  refine (dats m 0 0).arrAt_eq_of_covers 4 _ (by decide +kernel) fun t hf y => ?_
  obtain ⟨r, l, rfl⟩ : ∃ (r : Fin 4096) (l : Fin 8192), y = ix2 r l := ⟨y 0, y 1, eq_ix2 _⟩
  blk_simp
  rw [after0_4]
  simp only [outsAt0]
  frame_out
  simp only [read_unread_whole]
  have e : ((View.whole main_v0).slice (win0_4.rect t)).emb (ix2 r l) = (ix2 r l : S4096x8192.Idx) := by
    have h := index4 t
    blk_ext [h.1, h.2]
  rw [e]
  refine (Cert.Proof.whole_at _ _ _ _ r l).trans ?_
  show _ = Cert.Proof.scaled (fun k => xA m (ix2 r k)) (fun k => wA m (ix2 k l)) (sxA m (ix1 0) * swA m (ix1 0))
  rw [read2, read3]
  exact congrArg₂ (fun f g => Cert.Proof.scaled f g _) (funext fun k => read0 m t r k) (funext fun k => read1 m t k l)
end Cert.ReferenceIdeal.Proof
-- ==== Proof.Value.lean ====
module
public import proofs.«01_k».proof.Defs
public import proofs.«01_k».proof.Proof.Whole
public import proofs.«01_k».proof.Proof.Launch
public import Idealize.ShloMosaic.Lib.LayoutAt
@[expose] public section
set_option maxRecDepth 16384
noncomputable section
namespace Cert.KernelIdeal.Proof
open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! # Every device's result is its block of the reference's -/

/-- A row of the result on device `c` is the row of the block of `x` it came from, whichever way round the ring. -/
theorem outT_at (c : Dev nD) (r : Fin 4096) (l : Fin 512) :
    outT m ρ c (ix2 r l) = Cert.Proof.scaled
      (fun k => xstg m ρ (⟨r.val / 256, by have := r.isLt; show _ < 16; omega⟩ : Dev nD) (ix2 ⟨r.val % 256, Nat.mod_lt _ (by decide)⟩ k))
      (fun k => wV m c (ix2 k l)) (sxE m ρ c * swE m ρ c) := by
  unfold outT
  split
  · exact Cert.Proof.own_at _ _ _ _ _ _
  · split
    · refine (Cert.Proof.half_at _ _ _ _ _ _).trans ?_
      refine congrArg (fun f => Cert.Proof.scaled f _ _) (funext fun k => congrArg (xstg m ρ _) ?_)
      refine congrArg (fun a => ix2 a k) (Fin.ext ?_)
      show 128 * (r.val / 128 % 2) + r.val % 128 = r.val % 256
      omega
    · exact Cert.Proof.slot_at _ _ _ _ _ _

/-- The block of `x` as staged is the device's argument, whole. -/
theorem index_x : win0_0.index (0 : Fin 1) 0 = 0 ∧ win0_0.index (0 : Fin 1) 1 = 0 := by decide +kernel
theorem xstg_at (c : Dev nD) (a : Fin 256) (k : Fin 4096) :
    xstg m ρ c (ix2 a k) = (m ((c : Thread nD τ).loc main_arg0) : Vec Ideal S256x4096 .fp8e4m3) (ix2 a k) := by
  unfold xstg s₀
  blk_ext [index_x.1, index_x.2]

/-- An array of one element has one index; so the scales as staged are the device's arguments. -/
theorem one_index (i j : S1.Idx) : i = j := funext fun b => Fin.ext (by
  fin_cases b
  have hi : (i (0 : Fin 1)).val < 1 := (i (0 : Fin 1)).isLt
  have hj : (j (0 : Fin 1)).val < 1 := (j (0 : Fin 1)).isLt
  show (i (0 : Fin 1)).val = (j (0 : Fin 1)).val
  omega)
theorem sxE_at (c : Dev nD) : sxE m ρ c = (m ((c : Thread nD τ).loc main_arg2) : Vec Ideal S1 .f32) (ix1 0) :=
  congrArg (m ((c : Thread nD τ).loc main_arg2) : Vec Ideal S1 .f32) (one_index _ _)
theorem swE_at (c : Dev nD) : swE m ρ c = (m ((c : Thread nD τ).loc main_arg3) : Vec Ideal S1 .f32) (ix1 0) :=
  congrArg (m ((c : Thread nD τ).loc main_arg3) : Vec Ideal S1 .f32) (one_index _ _)

/-- From blocks of the same arrays, device `c`'s result is block `c` of the reference's. -/
theorem outT_block (m' : (ℓ : Loc Cert.ReferenceIdeal.nD Cert.ReferenceIdeal.τ Cert.ReferenceIdeal.sig) → Buf (Elt Ideal) ℓ)
    (h0 : ∀ c : Dev nD, (m ((c : Thread nD τ).loc main_arg0) : Vec Ideal S256x4096 .fp8e4m3)
      = Layout.block ⟨2, ![256, 4096]⟩ ⟨2, ![4096, 4096]⟩ 0 16 c (Cert.ReferenceIdeal.Proof.xA m'))
    (h1 : ∀ c : Dev nD, (m ((c : Thread nD τ).loc main_arg1) : Vec Ideal S4096x512 .f32)
      = Layout.block ⟨2, ![4096, 512]⟩ ⟨2, ![4096, 8192]⟩ 1 16 c (Cert.ReferenceIdeal.Proof.wA m'))
    (h2 : ∀ c : Dev nD, (m ((c : Thread nD τ).loc main_arg2) : Vec Ideal S1 .f32) = Cert.ReferenceIdeal.Proof.sxA m')
    (h3 : ∀ c : Dev nD, (m ((c : Thread nD τ).loc main_arg3) : Vec Ideal S1 .f32) = Cert.ReferenceIdeal.Proof.swA m')
    (c : Dev nD) :
    outT m ρ c = Layout.block ⟨2, ![4096, 512]⟩ ⟨2, ![4096, 8192]⟩ 1 16 c (Cert.ReferenceIdeal.Proof.refT m') := by
  funext j
  obtain ⟨r, l, rfl⟩ : ∃ (r : Fin 4096) (l : Fin 512), j = ix2 r l := ⟨j 0, j 1, eq_ix2 _⟩
  rw [outT_at, sxE_at, swE_at, h2, h3]
  simp only [xstg_at]
  rw [h0]
  unfold wV
  rw [h1]
  unfold Layout.block Cert.ReferenceIdeal.Proof.refT
  refine congrArg₂ (fun f g => Cert.Proof.scaled f g _) (funext fun k => ?_) (funext fun k => ?_)
  · shard_ext
  · shard_ext

/-- The kernel's ideal reading and the reference compute the same function over the reals. -/
theorem same_function : Cert.algebraic_KernelIdeal_ReferenceIdeal := fun m g m' g' _ h =>
  ⟨Cert.ReferenceIdeal.Proof.refT m',
   (θ_run _ _ _).mono (fun _ hr c => ⟨(hr.1 c).2.2.2.2.trans
      (outT_block m g m' (fun c => (h c).1) (fun c => (h c).2.1) (fun c => (h c).2.2.1) (fun c => (h c).2.2.2) c),
      (hr.1 c).1, (hr.1 c).2.1, (hr.1 c).2.2.1, (hr.1 c).2.2.2.1⟩) (run_main (F := Ideal) m g),
   (θ_run _ _ _).mono (fun _ hr => ⟨(hr 0).1.trans (Cert.ReferenceIdeal.Proof.final_whole m'), (hr 0).2⟩)
      (Cert.ReferenceIdeal.Value.run_blocks m' g')⟩

end Cert.KernelIdeal.Proof
-- ==== Proof.lean ====
/- The certificate's claims put together: the two readings of the ring kernel run and end quiet (Proof/Frames), the
   reference does (its generated frame), and every device's result is its block of the reference's (Proof/Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Both readings of the kernel and the reference run without a fault, leave their arguments alone and every counter at
    zero; the ideal reading is the printed program itself; and over the reals every device's result is its block of the
    reference's. -/
theorem claim : Cert.Claim := ⟨Cert.Kernel.Gen.facts, Cert.KernelIdeal.Gen.facts, Cert.ReferenceIdeal.Gen.facts,
  Cert.KernelIdeal.Proof.frame_words, Cert.KernelIdeal.Proof.frame_ideal,
  fun m ρ _ => Cert.ReferenceIdeal.Gen.frame m ρ, trivial,
  Cert.KernelIdeal.Proof.same_function⟩

end Cert.Proof

end
